-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_distinct_and_x_finite [hPre_indices_distinct_and_x_finite : Cert.Pre_indices_distinct_and_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_distinct_and_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_indices_distinct_and_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_indices_distinct_and_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_distinct_and_x_finite [hPre_indices_distinct_and_x_finite : Cert.Pre_indices_distinct_and_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_distinct_and_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_indices_distinct_and_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_indices_distinct_and_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_indices_distinct_and_x_finite [hKernelIdeal : Cert.KernelIdeal.Facts] [hPre_indices_distinct_and_x_finite : Cert.Pre_indices_distinct_and_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_distinct_and_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_distinct_and_x_finite [hReferenceIdeal : Cert.ReferenceIdeal.Facts] [hPre_indices_distinct_and_x_finite : Cert.Pre_indices_distinct_and_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_distinct_and_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_indices_distinct_and_x_finite [hKernelIdeal : Cert.KernelIdeal.Facts] [hReferenceIdeal : Cert.ReferenceIdeal.Facts] [hPre_indices_distinct_and_x_finite : Cert.Pre_indices_distinct_and_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_distinct_and_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45_0) = v0 c
          ∧ r.2.mem ((c.tc : Thread Cert.ReferenceIdeal.nD Cert.ReferenceIdeal.τ).loc Cert.ReferenceIdeal.main_v45_1) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_distinct_and_x_finite : Cert.Pre_indices_distinct_and_x_finite.Facts),
    quiescent_Kernel (hKernel := hKernel)
    ∧ quiescent_KernelIdeal (hKernelIdeal := hKernelIdeal)
    ∧ quiescent_KernelIdeal_pre_indices_distinct_and_x_finite (hKernelIdeal := hKernelIdeal) (hPre_indices_distinct_and_x_finite := hPre_indices_distinct_and_x_finite)
    ∧ quiescent_ReferenceIdeal (hReferenceIdeal := hReferenceIdeal)
    ∧ quiescent_ReferenceIdeal_pre_indices_distinct_and_x_finite (hReferenceIdeal := hReferenceIdeal) (hPre_indices_distinct_and_x_finite := hPre_indices_distinct_and_x_finite)
    ∧ preserves_Kernel_KernelIdeal
    ∧ algebraic_KernelIdeal_ReferenceIdeal_pre_indices_distinct_and_x_finite (hKernelIdeal := hKernelIdeal) (hReferenceIdeal := hReferenceIdeal) (hPre_indices_distinct_and_x_finite := hPre_indices_distinct_and_x_finite)
-- ==== Pre_indices_distinct_and_x_finite.lean ====
abbrev S2x6144x1024 : Shape := ⟨3, ![2, 6144, 1024]⟩
abbrev S128 : Shape := ⟨1, ![128]⟩
abbrev S128x5376 : Shape := ⟨2, ![128, 5376]⟩
abbrev S1024x5376 : Shape := ⟨2, ![1024, 5376]⟩
abbrev S32x5376 : Shape := ⟨2, ![32, 5376]⟩
abbrev S128x128 : Shape := ⟨2, ![128, 128]⟩
abbrev S128x1 : Shape := ⟨2, ![128, 1]⟩
abbrev S1x128 : Shape := ⟨2, ![1, 128]⟩
abbrev S_ : Shape := ⟨0, ![]⟩

class Facts : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128 : S_.BroadcastsInDim S128 (![] : Fin 0 → Fin S128.rank)
  bcast_S_S2x6144x1024 : S_.BroadcastsInDim S2x6144x1024 (![] : Fin 0 → Fin S2x6144x1024.rank)

variable [Facts]

def fn {F : FTy → Type} [FloatOps F] (main_arg0 : FVec F S2x6144x1024 .bf16) (main_arg1 : IVec S128 32) (main_arg2 : FVec F S128x5376 .bf16) (main_arg3 : FVec F S1024x5376 .fp8e4m3) (main_arg4 : FVec F S32x5376 .f32) : IVec S128x128 1 × IVec S128 1 × IVec S2x6144x1024 1 :=
  let main_v0 : IVec S128x128 32 := iotaInDim S128x128 32 0
  let main_v1 : IVec S128x128 32 := iotaInDim S128x128 32 1
  let main_v2 : IVec S128x128 1 := cmpi .eq main_v0 main_v1
  let main_v3 : IVec S128x1 32 := broadcastInDim S128x1 ![0] bcast_S128_S128x1_0 main_arg1
  let main_v4 : IVec S1x128 32 := broadcastInDim S1x128 ![1] bcast_S128_S1x128_1 main_arg1
  let main_v5 : IVec S128x128 32 := broadcastInDim S128x128 ![0, 1] bcast_S128x1_S128x128_0_1 main_v3
  let main_v6 : IVec S128x128 32 := broadcastInDim S128x128 ![0, 1] bcast_S1x128_S128x128_0_1 main_v4
  let main_v7 : IVec S128x128 1 := cmpi .ne main_v5 main_v6
  let main_v8 : IVec S128x128 1 := ori main_v2 main_v7
  let main_c : IVec S_ 32 := constantI S_ 32 0#32
  let main_v9 : IVec S128 32 := broadcastInDim S128 ![] bcast_S_S128 main_c
  let main_v10 : IVec S128 1 := cmpi .sge main_arg1 main_v9
  let main_c_0 : IVec S_ 32 := constantI S_ 32 1024#32
  let main_v11 : IVec S128 32 := broadcastInDim S128 ![] bcast_S_S128 main_c_0
  let main_v12 : IVec S128 1 := cmpi .slt main_arg1 main_v11
  let main_v13 : IVec S128 1 := andi main_v10 main_v12
  let main_v14 : FVec F S2x6144x1024 .bf16 := Host.absf main_arg0
  let main_cst : FVec F S_ .bf16 := constant S_ .bf16 0x7F7F#16
  let main_v15 : FVec F S2x6144x1024 .bf16 := broadcastInDim S2x6144x1024 ![] bcast_S_S2x6144x1024 main_cst
  let main_v16 : IVec S2x6144x1024 1 := cmpf .ole main_v14 main_v15
  (main_v8, main_v13, main_v16)
-- ==== Kernel.lean ====
abbrev S2x6144x1024 : Shape := ⟨3, ![2, 6144, 1024]⟩
abbrev S128 : Shape := ⟨1, ![128]⟩
abbrev S128x5376 : Shape := ⟨2, ![128, 5376]⟩
abbrev S1024x5376 : Shape := ⟨2, ![1024, 5376]⟩
abbrev S32x5376 : Shape := ⟨2, ![32, 5376]⟩
abbrev S1x128 : Shape := ⟨2, ![1, 128]⟩
abbrev S12288x1024 : Shape := ⟨2, ![12288, 1024]⟩
abbrev S12288x5376 : Shape := ⟨2, ![12288, 5376]⟩
abbrev S12288x32 : Shape := ⟨2, ![12288, 32]⟩
abbrev S512x1024 : Shape := ⟨2, ![512, 1024]⟩
abbrev S512x5376 : Shape := ⟨2, ![512, 5376]⟩
abbrev S512x32 : Shape := ⟨2, ![512, 32]⟩
abbrev S16x1024 : Shape := ⟨2, ![16, 1024]⟩
abbrev S1024x128 : Shape := ⟨2, ![1024, 128]⟩
abbrev S16x128 : Shape := ⟨2, ![16, 128]⟩
abbrev S128x256 : Shape := ⟨2, ![128, 256]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1x256 : Shape := ⟨2, ![1, 256]⟩
abbrev S16x128x1 : Shape := ⟨3, ![16, 128, 1]⟩
abbrev S8x128 : Shape := ⟨2, ![8, 128]⟩
abbrev S8x128x1 : Shape := ⟨3, ![8, 128, 1]⟩
abbrev S8x32 : Shape := ⟨2, ![8, 32]⟩
abbrev S1024x256 : Shape := ⟨2, ![1024, 256]⟩
abbrev S512x256 : Shape := ⟨2, ![512, 256]⟩

abbrev nBuf : Space → Nat
  | .hbm => 10
  | .vmem => 16
  | .smem => 0
  | _ => 0

abbrev bufTy : (tb : Table) → Fin (tcTables nBuf tb) → BufTy
  | .hbm, ⟨0, _⟩ => ⟨S2x6144x1024, .bf16⟩
  | .hbm, ⟨1, _⟩ => ⟨S128, .i32⟩
  | .hbm, ⟨2, _⟩ => ⟨S128x5376, .bf16⟩
  | .hbm, ⟨3, _⟩ => ⟨S1024x5376, .fp8e4m3⟩
  | .hbm, ⟨4, _⟩ => ⟨S32x5376, .f32⟩
  | .hbm, ⟨5, _⟩ => ⟨S1x128, .i32⟩
  | .hbm, ⟨6, _⟩ => ⟨S12288x1024, .bf16⟩
  | .hbm, ⟨7, _⟩ => ⟨S12288x5376, .bf16⟩
  | .hbm, ⟨8, _⟩ => ⟨S12288x1024, .fp8e4m3⟩
  | .hbm, ⟨9, _⟩ => ⟨S12288x32, .f32⟩
  | .local _ .vmem, ⟨0, _⟩ => ⟨S1x128, .i32⟩
  | .local _ .vmem, ⟨1, _⟩ => ⟨S512x1024, .bf16⟩
  | .local _ .vmem, ⟨2, _⟩ => ⟨S512x1024, .bf16⟩
  | .local _ .vmem, ⟨3, _⟩ => ⟨S128x5376, .bf16⟩
  | .local _ .vmem, ⟨4, _⟩ => ⟨S1024x5376, .fp8e4m3⟩
  | .local _ .vmem, ⟨5, _⟩ => ⟨S32x5376, .f32⟩
  | .local _ .vmem, ⟨6, _⟩ => ⟨S512x5376, .bf16⟩
  | .local _ .vmem, ⟨7, _⟩ => ⟨S512x5376, .bf16⟩
  | .local _ .vmem, ⟨8, _⟩ => ⟨S512x1024, .fp8e4m3⟩
  | .local _ .vmem, ⟨9, _⟩ => ⟨S512x1024, .fp8e4m3⟩
  | .local _ .vmem, ⟨10, _⟩ => ⟨S512x32, .f32⟩
  | .local _ .vmem, ⟨11, _⟩ => ⟨S512x32, .f32⟩
  | .local _ .vmem, ⟨12, _⟩ => ⟨S1024x5376, .bf16⟩
  | .local _ .vmem, ⟨13, _⟩ => ⟨S512x1024, .bf16⟩
  | .local _ .vmem, ⟨14, _⟩ => ⟨S16x1024, .bf16⟩
  | .local _ .vmem, ⟨15, _⟩ => ⟨S1024x128, .bf16⟩
  | _, _ => ⟨S2x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_137 : BitVec 32 := 0#32
  let c21_i32 : BitVec 32 := 21#32
  let v128 : BitVec 32 := Scalar.addi c0_i32_137 c21_i32
  let c1_i32_138 : BitVec 32 := 1#32
  ⟨c0_i32_137, v128, c1_i32_138⟩
def k0_mult1 (k0_t1 : Fin k0_t1_loop.trips) : BitVec 32 :=
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  v131
def k0_off1 (k0_t1 : Fin k0_t1_loop.trips) : Fin 2 → Nat :=
  let c0_142 : Index := 0#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v133 : Index := Scalar.indexCast v132
  ![0, v133.toNat]
def k0_off2 (k0_t1 : Fin k0_t1_loop.trips) : Fin 2 → Nat :=
  let c0_148 : Index := 0#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v143 : Index := Scalar.indexCast v132
  ![0, v143.toNat]
def k0_off3 (k0_t1 : Fin k0_t1_loop.trips) : Fin 2 → Nat :=
  let c0_149 : Index := 0#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v146 : Index := Scalar.indexCast v132
  ![0, v146.toNat]
def k0_off4 (k0_t1 : Fin k0_t1_loop.trips) : Fin 2 → Nat :=
  let c1 : Index := 1#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v169 : Index := Scalar.indexCast v132
  ![1, v169.toNat]
def k0_off5 (k0_t1 : Fin k0_t1_loop.trips) : Fin 2 → Nat :=
  let c32_155 : Index := 32#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v172 : Index := Scalar.indexCast v132
  ![32, v172.toNat]
def k0_off6 (k0_t1 : Fin k0_t1_loop.trips) : Fin 2 → Nat :=
  let c2 : Index := 2#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v195 : Index := Scalar.indexCast v132
  ![2, v195.toNat]
def k0_off7 (k0_t1 : Fin k0_t1_loop.trips) : Fin 2 → Nat :=
  let c64_161 : Index := 64#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v198 : Index := Scalar.indexCast v132
  ![64, v198.toNat]
def k0_off8 (k0_t1 : Fin k0_t1_loop.trips) : Fin 2 → Nat :=
  let c3 : Index := 3#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v221 : Index := Scalar.indexCast v132
  ![3, v221.toNat]
def k0_off9 (k0_t1 : Fin k0_t1_loop.trips) : Fin 2 → Nat :=
  let c96_167 : Index := 96#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v224 : Index := Scalar.indexCast v132
  ![96, v224.toNat]
def k0_off10 (k0_t1 : Fin k0_t1_loop.trips) : Fin 2 → Nat :=
  let c4 : Index := 4#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v247 : Index := Scalar.indexCast v132
  ![4, v247.toNat]
def k0_off11 (k0_t1 : Fin k0_t1_loop.trips) : Fin 2 → Nat :=
  let c128_173 : Index := 128#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v250 : Index := Scalar.indexCast v132
  ![128, v250.toNat]
def k0_off12 (k0_t1 : Fin k0_t1_loop.trips) : Fin 2 → Nat :=
  let c5 : Index := 5#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v273 : Index := Scalar.indexCast v132
  ![5, v273.toNat]
def k0_off13 (k0_t1 : Fin k0_t1_loop.trips) : Fin 2 → Nat :=
  let c160_179 : Index := 160#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v276 : Index := Scalar.indexCast v132
  ![160, v276.toNat]
def k0_off14 (k0_t1 : Fin k0_t1_loop.trips) : Fin 2 → Nat :=
  let c6 : Index := 6#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v299 : Index := Scalar.indexCast v132
  ![6, v299.toNat]
def k0_off15 (k0_t1 : Fin k0_t1_loop.trips) : Fin 2 → Nat :=
  let c192_185 : Index := 192#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v302 : Index := Scalar.indexCast v132
  ![192, v302.toNat]
def k0_off16 (k0_t1 : Fin k0_t1_loop.trips) : Fin 2 → Nat :=
  let c7 : Index := 7#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v325 : Index := Scalar.indexCast v132
  ![7, v325.toNat]
def k0_off17 (k0_t1 : Fin k0_t1_loop.trips) : Fin 2 → Nat :=
  let c224_191 : Index := 224#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v328 : Index := Scalar.indexCast v132
  ![224, v328.toNat]
def k0_off18 (k0_t1 : Fin k0_t1_loop.trips) : Fin 2 → Nat :=
  let c8 : Index := 8#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v351 : Index := Scalar.indexCast v132
  ![8, v351.toNat]
def k0_off19 (k0_t1 : Fin k0_t1_loop.trips) : Fin 2 → Nat :=
  let c256_198 : Index := 256#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v354 : Index := Scalar.indexCast v132
  ![256, v354.toNat]
def k0_off20 (k0_t1 : Fin k0_t1_loop.trips) : Fin 2 → Nat :=
  let c9 : Index := 9#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v377 : Index := Scalar.indexCast v132
  ![9, v377.toNat]
def k0_off21 (k0_t1 : Fin k0_t1_loop.trips) : Fin 2 → Nat :=
  let c288_204 : Index := 288#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v380 : Index := Scalar.indexCast v132
  ![288, v380.toNat]
def k0_off22 (k0_t1 : Fin k0_t1_loop.trips) : Fin 2 → Nat :=
  let c10 : Index := 10#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v403 : Index := Scalar.indexCast v132
  ![10, v403.toNat]
def k0_off23 (k0_t1 : Fin k0_t1_loop.trips) : Fin 2 → Nat :=
  let c320_210 : Index := 320#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v406 : Index := Scalar.indexCast v132
  ![320, v406.toNat]
def k0_off24 (k0_t1 : Fin k0_t1_loop.trips) : Fin 2 → Nat :=
  let c11 : Index := 11#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v429 : Index := Scalar.indexCast v132
  ![11, v429.toNat]
def k0_off25 (k0_t1 : Fin k0_t1_loop.trips) : Fin 2 → Nat :=
  let c352_216 : Index := 352#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v432 : Index := Scalar.indexCast v132
  ![352, v432.toNat]
def k0_off26 (k0_t1 : Fin k0_t1_loop.trips) : Fin 2 → Nat :=
  let c12 : Index := 12#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v455 : Index := Scalar.indexCast v132
  ![12, v455.toNat]
def k0_off27 (k0_t1 : Fin k0_t1_loop.trips) : Fin 2 → Nat :=
  let c384_222 : Index := 384#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v458 : Index := Scalar.indexCast v132
  ![384, v458.toNat]
def k0_off28 (k0_t1 : Fin k0_t1_loop.trips) : Fin 2 → Nat :=
  let c13 : Index := 13#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v481 : Index := Scalar.indexCast v132
  ![13, v481.toNat]
def k0_off29 (k0_t1 : Fin k0_t1_loop.trips) : Fin 2 → Nat :=
  let c416_228 : Index := 416#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v484 : Index := Scalar.indexCast v132
  ![416, v484.toNat]
def k0_off30 (k0_t1 : Fin k0_t1_loop.trips) : Fin 2 → Nat :=
  let c14 : Index := 14#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v507 : Index := Scalar.indexCast v132
  ![14, v507.toNat]
def k0_off31 (k0_t1 : Fin k0_t1_loop.trips) : Fin 2 → Nat :=
  let c448_234 : Index := 448#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v510 : Index := Scalar.indexCast v132
  ![448, v510.toNat]
def k0_off32 (k0_t1 : Fin k0_t1_loop.trips) : Fin 2 → Nat :=
  let c15 : Index := 15#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v533 : Index := Scalar.indexCast v132
  ![15, v533.toNat]
def k0_off33 (k0_t1 : Fin k0_t1_loop.trips) : Fin 2 → Nat :=
  let c480_240 : Index := 480#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v536 : Index := Scalar.indexCast v132
  ![480, v536.toNat]
def k0_off34 (k0_t1 : Fin k0_t1_loop.trips) : Fin 2 → Nat :=
  let c16 : Index := 16#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v559 : Index := Scalar.indexCast v132
  ![16, v559.toNat]
def k0_off35 (k0_t1 : Fin k0_t1_loop.trips) : Fin 2 → Nat :=
  let c512_247 : Index := 512#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v562 : Index := Scalar.indexCast v132
  ![512, v562.toNat]
def k0_off36 (k0_t1 : Fin k0_t1_loop.trips) : Fin 2 → Nat :=
  let c17 : Index := 17#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v585 : Index := Scalar.indexCast v132
  ![17, v585.toNat]
def k0_off37 (k0_t1 : Fin k0_t1_loop.trips) : Fin 2 → Nat :=
  let c544_253 : Index := 544#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v588 : Index := Scalar.indexCast v132
  ![544, v588.toNat]
def k0_off38 (k0_t1 : Fin k0_t1_loop.trips) : Fin 2 → Nat :=
  let c18 : Index := 18#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v611 : Index := Scalar.indexCast v132
  ![18, v611.toNat]
def k0_off39 (k0_t1 : Fin k0_t1_loop.trips) : Fin 2 → Nat :=
  let c576_259 : Index := 576#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v614 : Index := Scalar.indexCast v132
  ![576, v614.toNat]
def k0_off40 (k0_t1 : Fin k0_t1_loop.trips) : Fin 2 → Nat :=
  let c19 : Index := 19#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v637 : Index := Scalar.indexCast v132
  ![19, v637.toNat]
def k0_off41 (k0_t1 : Fin k0_t1_loop.trips) : Fin 2 → Nat :=
  let c608_265 : Index := 608#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v640 : Index := Scalar.indexCast v132
  ![608, v640.toNat]
def k0_off42 (k0_t1 : Fin k0_t1_loop.trips) : Fin 2 → Nat :=
  let c20 : Index := 20#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v663 : Index := Scalar.indexCast v132
  ![20, v663.toNat]
def k0_off43 (k0_t1 : Fin k0_t1_loop.trips) : Fin 2 → Nat :=
  let c640_271 : Index := 640#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v666 : Index := Scalar.indexCast v132
  ![640, v666.toNat]
def k0_off44 (k0_t1 : Fin k0_t1_loop.trips) : Fin 2 → Nat :=
  let c21 : Index := 21#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v689 : Index := Scalar.indexCast v132
  ![21, v689.toNat]
def k0_off45 (k0_t1 : Fin k0_t1_loop.trips) : Fin 2 → Nat :=
  let c672_277 : Index := 672#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v692 : Index := Scalar.indexCast v132
  ![672, v692.toNat]
def k0_off46 (k0_t1 : Fin k0_t1_loop.trips) : Fin 2 → Nat :=
  let c22 : Index := 22#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v715 : Index := Scalar.indexCast v132
  ![22, v715.toNat]
def k0_off47 (k0_t1 : Fin k0_t1_loop.trips) : Fin 2 → Nat :=
  let c704_283 : Index := 704#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v718 : Index := Scalar.indexCast v132
  ![704, v718.toNat]
def k0_off48 (k0_t1 : Fin k0_t1_loop.trips) : Fin 2 → Nat :=
  let c23 : Index := 23#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v741 : Index := Scalar.indexCast v132
  ![23, v741.toNat]
def k0_off49 (k0_t1 : Fin k0_t1_loop.trips) : Fin 2 → Nat :=
  let c736_289 : Index := 736#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v744 : Index := Scalar.indexCast v132
  ![736, v744.toNat]
def k0_off50 (k0_t1 : Fin k0_t1_loop.trips) : Fin 2 → Nat :=
  let c24 : Index := 24#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v767 : Index := Scalar.indexCast v132
  ![24, v767.toNat]
def k0_off51 (k0_t1 : Fin k0_t1_loop.trips) : Fin 2 → Nat :=
  let c768_296 : Index := 768#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v770 : Index := Scalar.indexCast v132
  ![768, v770.toNat]
def k0_off52 (k0_t1 : Fin k0_t1_loop.trips) : Fin 2 → Nat :=
  let c25 : Index := 25#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v793 : Index := Scalar.indexCast v132
  ![25, v793.toNat]
def k0_off53 (k0_t1 : Fin k0_t1_loop.trips) : Fin 2 → Nat :=
  let c800_302 : Index := 800#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v796 : Index := Scalar.indexCast v132
  ![800, v796.toNat]
def k0_off54 (k0_t1 : Fin k0_t1_loop.trips) : Fin 2 → Nat :=
  let c26 : Index := 26#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v819 : Index := Scalar.indexCast v132
  ![26, v819.toNat]
def k0_off55 (k0_t1 : Fin k0_t1_loop.trips) : Fin 2 → Nat :=
  let c832_308 : Index := 832#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v822 : Index := Scalar.indexCast v132
  ![832, v822.toNat]
def k0_off56 (k0_t1 : Fin k0_t1_loop.trips) : Fin 2 → Nat :=
  let c27 : Index := 27#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v845 : Index := Scalar.indexCast v132
  ![27, v845.toNat]
def k0_off57 (k0_t1 : Fin k0_t1_loop.trips) : Fin 2 → Nat :=
  let c864_314 : Index := 864#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v848 : Index := Scalar.indexCast v132
  ![864, v848.toNat]
def k0_off58 (k0_t1 : Fin k0_t1_loop.trips) : Fin 2 → Nat :=
  let c28 : Index := 28#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v871 : Index := Scalar.indexCast v132
  ![28, v871.toNat]
def k0_off59 (k0_t1 : Fin k0_t1_loop.trips) : Fin 2 → Nat :=
  let c896_320 : Index := 896#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v874 : Index := Scalar.indexCast v132
  ![896, v874.toNat]
def k0_off60 (k0_t1 : Fin k0_t1_loop.trips) : Fin 2 → Nat :=
  let c29 : Index := 29#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v897 : Index := Scalar.indexCast v132
  ![29, v897.toNat]
def k0_off61 (k0_t1 : Fin k0_t1_loop.trips) : Fin 2 → Nat :=
  let c928_326 : Index := 928#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v900 : Index := Scalar.indexCast v132
  ![928, v900.toNat]
def k0_off62 (k0_t1 : Fin k0_t1_loop.trips) : Fin 2 → Nat :=
  let c30 : Index := 30#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v923 : Index := Scalar.indexCast v132
  ![30, v923.toNat]
def k0_off63 (k0_t1 : Fin k0_t1_loop.trips) : Fin 2 → Nat :=
  let c960_332 : Index := 960#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v926 : Index := Scalar.indexCast v132
  ![960, v926.toNat]
def k0_off64 (k0_t1 : Fin k0_t1_loop.trips) : Fin 2 → Nat :=
  let c31 : Index := 31#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v949 : Index := Scalar.indexCast v132
  ![31, v949.toNat]
def k0_off65 (k0_t1 : Fin k0_t1_loop.trips) : Fin 2 → Nat :=
  let c992_338 : Index := 992#32
  let c0_i32_141 : BitVec 32 := 0#32
  let c0_i32_137 : BitVec 32 := 0#32
  let c1_i32_138 : BitVec 32 := 1#32
  let arg13 : BitVec 32 := Scf.iv c0_i32_137 c1_i32_138 k0_t1
  let c1_i32_140 : BitVec 32 := 1#32
  let v129 : BitVec 32 := Scalar.muli arg13 c1_i32_140
  let v130 : BitVec 32 := Scalar.addi c0_i32_141 v129
  let c256_i32 : BitVec 32 := 256#32
  let v131 : BitVec 32 := Scalar.muli v130 c256_i32
  let v132 : BitVec 32 := v131
  let v952 : Index := Scalar.indexCast v132
  ![992, v952.toNat]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  v111
def k0_off66 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v115 : Index := Scalar.indexCast v114
  let c0_131 : Index := 0#32
  ![v115.toNat, 0]
def k0_off67 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v120 : Index := Scalar.indexCast v114
  let c128 : Index := 128#32
  ![v120.toNat, 128]
def k0_off68 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v125 : Index := Scalar.indexCast v114
  let c256_136 : Index := 256#32
  ![v125.toNat, 256]
def k0_off69 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v130 : Index := Scalar.indexCast v114
  let c384 : Index := 384#32
  ![v130.toNat, 384]
def k0_off70 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v135 : Index := Scalar.indexCast v114
  let c512_141 : Index := 512#32
  ![v135.toNat, 512]
def k0_off71 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v140 : Index := Scalar.indexCast v114
  let c640 : Index := 640#32
  ![v140.toNat, 640]
def k0_off72 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v145 : Index := Scalar.indexCast v114
  let c768_146 : Index := 768#32
  ![v145.toNat, 768]
def k0_off73 (k0_t2 : Fin k0_t2_loop.trips) (c0_i32_130 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v114 : BitVec 32 := Scalar.addi v112 c0_i32_130
  let v150 : Index := Scalar.indexCast v114
  let c896 : Index := 896#32
  ![v150.toNat, 896]
def k0_off74 (k0_t2 : Fin k0_t2_loop.trips) (c0_i32_196 : BitVec 32) (c0_i32_197 : BitVec 32) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v402 : BitVec 32 := Scalar.addi v112 c0_i32_196
  let v403 : BitVec 32 := Scalar.addi v402 c0_i32_197
  let v404 : Index := Scalar.indexCast v403
  let c0_198 : Index := 0#32
  ![v404.toNat, 0]
def k0_off75 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v782 : Index := Scalar.indexCast v112
  let c0_311 : Index := 0#32
  ![v782.toNat, 0]
def k0_off76 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v862 : Index := Scalar.indexCast v112
  let c128_332 : Index := 128#32
  ![v862.toNat, 128]
def k0_off77 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v942 : Index := Scalar.indexCast v112
  let c256_353 : Index := 256#32
  ![v942.toNat, 256]
def k0_off78 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v1022 : Index := Scalar.indexCast v112
  let c384_374 : Index := 384#32
  ![v1022.toNat, 384]
def k0_off79 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v1102 : Index := Scalar.indexCast v112
  let c512_395 : Index := 512#32
  ![v1102.toNat, 512]
def k0_off80 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v1182 : Index := Scalar.indexCast v112
  let c640_416 : Index := 640#32
  ![v1182.toNat, 640]
def k0_off81 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v1262 : Index := Scalar.indexCast v112
  let c768_437 : Index := 768#32
  ![v1262.toNat, 768]
def k0_off82 (k0_t2 : Fin k0_t2_loop.trips) : Fin 2 → Nat :=
  let c0_i32_129 : BitVec 32 := 0#32
  let c0_i32_1 : BitVec 32 := 0#32
  let c1_i32 : BitVec 32 := 1#32
  let arg13 : BitVec 32 := Scf.iv c0_i32_1 c1_i32 k0_t2
  let c1_i32_128 : BitVec 32 := 1#32
  let v109 : BitVec 32 := Scalar.muli arg13 c1_i32_128
  let v110 : BitVec 32 := Scalar.addi c0_i32_129 v109
  let c32_i32 : BitVec 32 := 32#32
  let v111 : BitVec 32 := Scalar.muli v110 c32_i32
  let v112 : BitVec 32 := v111
  let v1342 : Index := Scalar.indexCast v112
  let c896_458 : Index := 896#32
  ![v1342.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5376 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x6144x1024 : Shape := ⟨3, ![2, 6144, 1024]⟩
abbrev S128 : Shape := ⟨1, ![128]⟩
abbrev S128x5376 : Shape := ⟨2, ![128, 5376]⟩
abbrev S1024x5376 : Shape := ⟨2, ![1024, 5376]⟩
abbrev S32x5376 : Shape := ⟨2, ![32, 5376]⟩
abbrev S12288x1024 : Shape := ⟨2, ![12288, 1024]⟩
abbrev S128x1 : Shape := ⟨2, ![128, 1]⟩
abbrev S12288x128 : Shape := ⟨2, ![12288, 128]⟩
abbrev S1024 : Shape := ⟨1, ![1024]⟩
abbrev S1024x1 : Shape := ⟨2, ![1024, 1]⟩
abbrev S1x128 : Shape := ⟨2, ![1, 128]⟩
abbrev S1024x128 : Shape := ⟨2, ![1024, 128]⟩
abbrev S_ : Shape := ⟨0, ![]⟩
abbrev S12288x32x32 : Shape := ⟨3, ![12288, 32, 32]⟩
abbrev S12288x32 : Shape := ⟨2, ![12288, 32]⟩
abbrev S12288x32x1 : Shape := ⟨3, ![12288, 32, 1]⟩
abbrev S32x32x5376 : Shape := ⟨3, ![32, 32, 5376]⟩
abbrev S12288x5376 : Shape := ⟨2, ![12288, 5376]⟩

abbrev nBuf : Space → Nat
  | .hbm => 75
  | .vmem => 8
  | .smem => 0
  | _ => 0

abbrev bufTy : (tb : Table) → Fin (tcTables nBuf tb) → BufTy
  | .hbm, ⟨0, _⟩ => ⟨S2x6144x1024, .bf16⟩
  | .hbm, ⟨1, _⟩ => ⟨S128, .i32⟩
  | .hbm, ⟨2, _⟩ => ⟨S128x5376, .bf16⟩
  | .hbm, ⟨3, _⟩ => ⟨S1024x5376, .fp8e4m3⟩
  | .hbm, ⟨4, _⟩ => ⟨S32x5376, .f32⟩
  | .hbm, ⟨5, _⟩ => ⟨S12288x1024, .bf16⟩
  | .hbm, ⟨6, _⟩ => ⟨S128x1, .i32⟩
  | .hbm, ⟨7, _⟩ => ⟨S12288x128, .bf16⟩
  | .hbm, ⟨8, _⟩ => ⟨S1024, .i32⟩
  | .hbm, ⟨9, _⟩ => ⟨S1024x1, .i32⟩
  | .hbm, ⟨10, _⟩ => ⟨S1x128, .i32⟩
  | .hbm, ⟨11, _⟩ => ⟨S1024x128, .i32⟩
  | .hbm, ⟨12, _⟩ => ⟨S1024x128, .i32⟩
  | .hbm, ⟨13, _⟩ => ⟨S1024x128, .i1⟩
  | .hbm, ⟨14, _⟩ => ⟨S_, .i1⟩
  | .hbm, ⟨15, _⟩ => ⟨S1024, .i1⟩
  | .hbm, ⟨16, _⟩ => ⟨S_, .bf16⟩
  | .hbm, ⟨17, _⟩ => ⟨S12288x1024, .i1⟩
  | .hbm, ⟨18, _⟩ => ⟨S12288x1024, .bf16⟩
  | .hbm, ⟨19, _⟩ => ⟨S12288x1024, .bf16⟩
  | .hbm, ⟨20, _⟩ => ⟨S12288x1024, .f32⟩
  | .hbm, ⟨21, _⟩ => ⟨S12288x32x32, .f32⟩
  | .hbm, ⟨22, _⟩ => ⟨S12288x32x32, .f32⟩
  | .hbm, ⟨23, _⟩ => ⟨S_, .f32⟩
  | .hbm, ⟨24, _⟩ => ⟨S12288x32, .f32⟩
  | .hbm, ⟨25, _⟩ => ⟨S_, .f32⟩
  | .hbm, ⟨26, _⟩ => ⟨S12288x32, .f32⟩
  | .hbm, ⟨27, _⟩ => ⟨S12288x32, .f32⟩
  | .hbm, ⟨28, _⟩ => ⟨S_, .f32⟩
  | .hbm, ⟨29, _⟩ => ⟨S12288x32, .f32⟩
  | .hbm, ⟨30, _⟩ => ⟨S12288x32, .i1⟩
  | .hbm, ⟨31, _⟩ => ⟨S12288x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S12288x32, .f32⟩
  | .hbm, ⟨36, _⟩ => ⟨S12288x32, .f32⟩
  | .hbm, ⟨37, _⟩ => ⟨S12288x32, .f32⟩
  | .hbm, ⟨38, _⟩ => ⟨S_, .f32⟩
  | .hbm, ⟨39, _⟩ => ⟨S12288x32, .f32⟩
  | .hbm, ⟨40, _⟩ => ⟨S12288x32, .f32⟩
  | .hbm, ⟨41, _⟩ => ⟨S_, .f32⟩
  | .hbm, ⟨42, _⟩ => ⟨S12288x32, .f32⟩
  | .hbm, ⟨43, _⟩ => ⟨S12288x32, .f32⟩
  | .hbm, ⟨44, _⟩ => ⟨S_, .f32⟩
  | .hbm, ⟨45, _⟩ => ⟨S_, .f32⟩
  | .hbm, ⟨46, _⟩ => ⟨S12288x32, .f32⟩
  | .hbm, ⟨47, _⟩ => ⟨S12288x32, .f32⟩
  | .hbm, ⟨48, _⟩ => ⟨S_, .f32⟩
  | .hbm, ⟨49, _⟩ => ⟨S12288x32, .f32⟩
  | .hbm, ⟨50, _⟩ => ⟨S12288x32, .f32⟩
  | .hbm, ⟨51, _⟩ => ⟨S12288x32, .f32⟩
  | .hbm, ⟨52, _⟩ => ⟨S_, .f32⟩
  | .hbm, ⟨53, _⟩ => ⟨S12288x32, .f32⟩
  | .hbm, ⟨54, _⟩ => ⟨S12288x32, .f32⟩
  | .hbm, ⟨55, _⟩ => ⟨S12288x32x1, .f32⟩
  | .hbm, ⟨56, _⟩ => ⟨S12288x32x32, .f32⟩
  | .hbm, ⟨57, _⟩ => ⟨S12288x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S12288x32x32, .f32⟩
  | .hbm, ⟨62, _⟩ => ⟨S12288x32x32, .f32⟩
  | .hbm, ⟨63, _⟩ => ⟨S_, .f32⟩
  | .hbm, ⟨64, _⟩ => ⟨S12288x32x32, .f32⟩
  | .hbm, ⟨65, _⟩ => ⟨S12288x32x32, .f32⟩
  | .hbm, ⟨66, _⟩ => ⟨S12288x1024, .f32⟩
  | .hbm, ⟨67, _⟩ => ⟨S12288x32, .bf16⟩
  | .hbm, ⟨68, _⟩ => ⟨S12288x32x32, .bf16⟩
  | .hbm, ⟨69, _⟩ => ⟨S12288x1024, .bf16⟩
  | .hbm, ⟨70, _⟩ => ⟨S32x5376, .bf16⟩
  | .hbm, ⟨71, _⟩ => ⟨S32x32x5376, .bf16⟩
  | .hbm, ⟨72, _⟩ => ⟨S1024x5376, .bf16⟩
  | .hbm, ⟨73, _⟩ => ⟨S12288x5376, .bf16⟩
  | .hbm, ⟨74, _⟩ => ⟨S12288x1024, .fp8e4m3⟩
  | .local _ .vmem, ⟨0, _⟩ => ⟨S12288x1024, .f32⟩
  | .local _ .vmem, ⟨1, _⟩ => ⟨S12288x1024, .bf16⟩
  | .local _ .vmem, ⟨2, _⟩ => ⟨S1024x5376, .fp8e4m3⟩
  | .local _ .vmem, ⟨3, _⟩ => ⟨S1024x5376, .bf16⟩
  | .local _ .vmem, ⟨4, _⟩ => ⟨S12288x128, .bf16⟩
  | .local _ .vmem, ⟨5, _⟩ => ⟨S128x5376, .bf16⟩
  | .local _ .vmem, ⟨6, _⟩ => ⟨S12288x5376, .bf16⟩
  | .local _ .vmem, ⟨7, _⟩ => ⟨S12288x1024, .fp8e4m3⟩
  | _, _ => ⟨S2x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45_0 : Ref sig .tc := ⟨.hbm, 73, rfl⟩
abbrev main_v45_1 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Host.lean ====
/- What the reference's host arrays hold, as functions of its arguments. -/
module

public import proofs.«01_k».proof.Proof.Gen.ReferenceIdeal.Value
public import Idealize.ShloMosaic.PureOps.Ideal
public import Idealize.ShloMosaic.Lib.ValueIdx
public import Idealize.ShloMosaic.Lib.StableHlo.RunRead

@[expose] public section

set_option maxRecDepth 8192

noncomputable section

namespace Cert.Host

open Idealize.ShloMosaic Idealize.ShloMosaic.TcCoe Idealize.ShloMosaic.ValueIdx Idealize.SL.Sem
open Cert.ReferenceIdeal Cert.ReferenceIdeal.Gen

/-! ## The reference's steps, one function each -/

/-- The channels that the index list names. -/
def isOut (ids : IVec S128 32) : IVec S1024 1 :=
  Host.reduce IntOp.ori
    (cmpi .eq (broadcastInDim S1024x128 ![0, 1] bcast_S1024x1_S1024x128_0_1 (broadcastInDim S1024x1 ![0] bcast_S1024_S1024x1_0 (iotaInDim S1024 32 0)))
      (broadcastInDim S1024x128 ![0, 1] bcast_S1x128_S1024x128_0_1 (broadcastInDim S1x128 ![1] bcast_S128_S1x128_1 ids)))
    (constantI S_ 1 0#1) reducesTo_S1024x128_S1024_d1 h_S_

/-- The rows with the outlier channels set to zero. -/
def kept (X : FVec Ideal S12288x1024 .bf16) (ids : IVec S128 32) : FVec Ideal S12288x1024 .bf16 :=
  select (broadcastInDim S12288x1024 ![1] bcast_S1024_S12288x1024_1 (isOut ids))
    (broadcastInDim S12288x1024 ![] bcast_S_S12288x1024 (constant (F := Ideal) S_ .bf16 0x0000#16)) X

/-- The kept rows in groups of 32 channels. -/
def groups (X : FVec Ideal S12288x1024 .bf16) (ids : IVec S128 32) : FVec Ideal S12288x32x32 .f32 :=
  shapeCast S12288x32x32 (extf .f32 (kept X ids) bitsLt_bf16_f32) shapeCasts_S12288x1024_S12288x32x32

/-- The largest magnitude of each group. -/
def largest (W : FVec Ideal S12288x32x32 .f32) : FVec Ideal S12288x32 .f32 :=
  Host.reduce FloatOps.maximumf (Host.absf W) (constant (F := Ideal) S_ .f32 0xFF800000#32) reducesTo_S12288x32x32_S12288x32_d2 h_S_

/-- One number at every group. -/
def everywhere (b : BitVec 32) : FVec Ideal S12288x32 .f32 :=
  broadcastInDim S12288x32 ![] bcast_S_S12288x32 (constant (F := Ideal) S_ .f32 b)

/-- The exponent of each group's scale. -/
def exponent (A : FVec Ideal S12288x32 .f32) : FVec Ideal S12288x32 .f32 :=
  select (cmpf .oeq A (everywhere 0x00000000#32)) (everywhere 0x00000000#32)
    (maximumf (addf (Host.floor (Host.divf (Host.log (mulf A (everywhere 0x3B124925#32)))
      (broadcastInDim S12288x32 ![] bcast_S_S12288x32 (Host.log (constant (F := Ideal) S_ .f32 0x40000000#32)))))
      (everywhere 0x3F800000#32)) (everywhere 0xC2FC0000#32))

/-- Each group's scale. -/
def scales (A : FVec Ideal S12288x32 .f32) : FVec Ideal S12288x32 .f32 := Host.powf (everywhere 0x40000000#32) (exponent A)

/-- Each group's inverse scale. -/
def inverses (A : FVec Ideal S12288x32 .f32) : FVec Ideal S12288x32 .f32 := Host.powf (everywhere 0x40000000#32) (Host.negf (exponent A))

/-- The scaled elements, clipped to the format's range. -/
def clipped (W : FVec Ideal S12288x32x32 .f32) (A : FVec Ideal S12288x32 .f32) : FVec Ideal S12288x1024 .f32 :=
  shapeCast S12288x1024
    (minimumf (broadcastInDim S12288x32x32 ![] bcast_S_S12288x32x32 (constant (F := Ideal) S_ .f32 0x43E00000#32))
      (maximumf (broadcastInDim S12288x32x32 ![] bcast_S_S12288x32x32 (constant (F := Ideal) S_ .f32 0xC3E00000#32))
        (mulf W (broadcastInDim S12288x32x32 ![0, 1, 2] bcast_S12288x32x1_S12288x32x32_0_1_2
          (broadcastInDim S12288x32x1 ![0, 1] bcast_S12288x32_S12288x32x1_0_1 (inverses A))))))
    shapeCasts_S12288x32x32_S12288x1024

/-- Each group's scale, once per channel. -/
def scalesWide (A : FVec Ideal S12288x32 .f32) : FVec Ideal S12288x1024 .bf16 :=
  shapeCast S12288x1024 (broadcastInDim S12288x32x32 ![0, 1] bcast_S12288x32_S12288x32x32_0_1 (truncf .bf16 (scales A) bitsLt_bf16_f32))
    shapeCasts_S12288x32x32_S12288x1024

/-- Each group's weight scale, once per channel. -/
def weightScalesWide (S : FVec Ideal S32x5376 .f32) : FVec Ideal S1024x5376 .bf16 :=
  shapeCast S1024x5376 (broadcastInDim S32x32x5376 ![0, 2] bcast_S32x5376_S32x32x5376_0_2 (truncf .bf16 S bitsLt_bf16_f32))
    shapeCasts_S32x32x5376_S1024x5376

/-- The outlier channels, in the list's order. -/
def outliers (X : FVec Ideal S12288x1024 .bf16) (ids : IVec S128 32) : FVec Ideal S12288x128 .bf16 :=
  Host.gather gather_S12288x1024_S128x1_S12288x128_0_1_n_n_1_1_122881 X (broadcastInDim S128x1 ![0] bcast_S128_S128x1_0 ids)

/-! ## The arrays the host operations leave -/

variable (m : (ℓ : Loc nD τ sig) → Buf (Elt Ideal) ℓ) (c : Dev nD)

/-- The input's rows. -/
def flat (x : FVec Ideal S2x6144x1024 .bf16) : FVec Ideal S12288x1024 .bf16 := shapeCast S12288x1024 x shapeCasts_S2x6144x1024_S12288x1024

/-- The input's rows, at the launch. -/
abbrev rows : FVec Ideal S12288x1024 .bf16 := flat (m (c, Proc.tc.devRef main_arg0))

/-- The index list at the launch. -/
abbrev ids : IVec S128 32 := m (c, Proc.tc.devRef main_arg1)

/-- The region's outlier operand. -/
theorem host_outliers : V m c main_v1 = outliers (rows m c) (ids m c) := by
  unfold V
  after_reads_simp
  simp -implicitDefEqProofs only [StableHlo.TRef.toBuf, StableHlo.TRef.ofBuf, cast_cast, cast_eq]
  rfl

/-- The third result: the scales. -/
theorem host_scales : V m c main_v30 = scales (largest (groups (rows m c) (ids m c))) := by
  unfold V
  after_reads_simp
  simp -implicitDefEqProofs only [StableHlo.TRef.toBuf, StableHlo.TRef.ofBuf, cast_cast, cast_eq]
  rfl

/-- The region's clipped operand. -/
theorem host_clipped : V m c main_v38 = clipped (groups (rows m c) (ids m c)) (largest (groups (rows m c) (ids m c))) := by
  unfold V
  after_reads_simp
  simp -implicitDefEqProofs only [StableHlo.TRef.toBuf, StableHlo.TRef.ofBuf, cast_cast, cast_eq]
  rfl

/-- The region's scales. -/
theorem host_scalesWide : V m c main_v41 = scalesWide (largest (groups (rows m c) (ids m c))) := by
  unfold V
  after_reads_simp
  simp -implicitDefEqProofs only [StableHlo.TRef.toBuf, StableHlo.TRef.ofBuf, cast_cast, cast_eq]
  rfl

/-- The region's weight scales. -/
theorem host_weightScalesWide : V m c main_v44 = weightScalesWide (m (c, Proc.tc.devRef main_arg4)) := by
  unfold V
  after_reads_simp
  rfl

end Cert.Host
-- ==== Proof.Reading.lean ====
/- The reference's host arrays, one element at a time. -/
module

public import proofs.«01_k».proof.Proof.Host
public import Idealize.ShloMosaic.Lib.IdealHost
public import Idealize.ShloMosaic.Lib.KernelVsHost
public import Idealize.ShloMosaic.Lib.WordCmp
public import Idealize.ShloMosaic.Lib.Pipeline.Value

@[expose] public section

set_option maxRecDepth 8192

noncomputable section

namespace Cert.Host

open Idealize.ShloMosaic Idealize.ShloMosaic.TcCoe Idealize.ShloMosaic.ValueIdx Idealize.SL.Sem
open Cert.ReferenceIdeal Cert.ReferenceIdeal.Gen

/-! ## The outlier channels -/

/-- The index list names the channel. -/
def Named (ids : IVec S128 32) (d : Fin 1024) : Prop := ∃ k : Fin 128, BitVec.ofNat 32 d.val = ids (ix1 k)

/-- A fold by "or" of decided propositions decides whether one of them holds. -/
theorem fold_or {n : ℕ} (p : Fin n → Prop) (s : Finset (Fin n)) (f : Fin n → BitVec 1) [DecidablePred p]
    (hf : ∀ k, f k = BitVec.ofBool (decide (p k))) [Decidable (∃ k ∈ s, p k)] :
    s.fold IntOp.ori 0#1 f = BitVec.ofBool (decide (∃ k ∈ s, p k)) := by
  classical
  have h : ∀ s : Finset (Fin n), s.fold IntOp.ori 0#1 f = BitVec.ofBool (decide (∃ k ∈ s, p k)) := by
    intro s
    induction s using Finset.induction_on with
    | empty => simp
    | insert a s ha ih =>
      rw [Finset.fold_insert ha, ih, hf, show ∀ p q : Bool, IntOp.ori (BitVec.ofBool p) (BitVec.ofBool q) = BitVec.ofBool (p || q) from by decide]
      refine congrArg BitVec.ofBool ?_
      rw [← Bool.decide_or]
      refine decide_eq_decide.mpr ?_
      simp
  rw [h s]
  refine congrArg BitVec.ofBool (decide_eq_decide.mpr Iff.rfl)

theorem reduces_names : S1024x128.Reduces [1] S1024 := by decide

open Classical in
/-- The bit of a channel says whether the list names it. -/
theorem isOut_apply (ids : IVec S128 32) (d : Fin 1024) : isOut ids (ix1 d) = BitVec.ofBool (decide (Named ids d)) := by
  unfold isOut
  rw [Host.reduce_eq_fold_single IntOp.ori _ _ _ reduces_names h_S_]
  refine (fold_or (n := 128) (fun k => BitVec.ofNat 32 d.val = ids (ix1 k)) Finset.univ _ (fun k => ?_)).trans ?_
  · have e : reduces_names.lift (ix1 d) k = ix2 d k := by
      funext a; match a with
      | ⟨0, _⟩ => rfl
      | ⟨1, _⟩ => rfl
    show cmpi .eq _ _ (reduces_names.lift (ix1 d) k) = _
    rw [e]
    show IntOp.cmpi .eq (broadcastInDim S1024x128 ![0, 1] bcast_S1024x1_S1024x128_0_1 (broadcastInDim S1024x1 ![0] bcast_S1024_S1024x1_0 (iotaInDim S1024 32 0)) (ix2 d k))
      (broadcastInDim S1024x128 ![0, 1] bcast_S1x128_S1024x128_0_1 (broadcastInDim S1x128 ![1] bcast_S128_S1x128_1 ids) (ix2 d k)) = _
    rw [broadcastInDim_apply _ _ _ (ix2 d k) (ix2 d (0 : Fin 1)) (fun a => by match a with | ⟨0, _⟩ => rfl | ⟨1, _⟩ => rfl),
      broadcastInDim_apply _ _ _ (ix2 d (0 : Fin 1)) (ix1 d) (fun a => by match a with | ⟨0, _⟩ => rfl),
      broadcastInDim_apply _ _ _ (ix2 d k) (ix2 (0 : Fin 1) k) (fun a => by match a with | ⟨0, _⟩ => rfl | ⟨1, _⟩ => rfl),
      broadcastInDim_apply _ _ _ (ix2 (0 : Fin 1) k) (ix1 k) (fun a => by match a with | ⟨0, _⟩ => rfl),
      WordCmp.cmpi_eq_eq]
    rfl
  · exact congrArg BitVec.ofBool (decide_eq_decide.mpr (by simp [Named]))

open Classical in
/-- A kept row is zero at the outlier channels and the input elsewhere. -/
theorem kept_apply (X : FVec Ideal S12288x1024 .bf16) (ids : IVec S128 32) (r : Fin 12288) (d : Fin 1024) :
    kept X ids (ix2 r d) = if Named ids d then (0 : EReal) else X (ix2 r d) := by
  unfold kept
  show Scalar.select (broadcastInDim S12288x1024 ![1] bcast_S1024_S12288x1024_1 (isOut ids) (ix2 r d)) (Ideal.ofBits .bf16 0x0000#16) (X (ix2 r d)) = _
  rw [broadcastInDim_apply _ _ _ (ix2 r d) (ix1 d) (fun a => by match a with | ⟨0, _⟩ => rfl), isOut_apply, Ideal.ofBits_zero_bf16]
  by_cases h : Named ids d
  · rw [if_pos h, decide_eq_true h]; rfl
  · rw [if_neg h, decide_eq_false h]; rfl

/-! ## The groups -/

/-- Channel `k` of group `g`. -/
abbrev chan (g k : Fin 32) : Fin 1024 := ⟨32 * g.val + k.val, by omega⟩

/-- The groups read the kept rows channel by channel. -/
theorem groups_apply (X : FVec Ideal S12288x1024 .bf16) (ids : IVec S128 32) (r : Fin 12288) (g k : Fin 32) :
    groups X ids (ix3 r g k) = kept X ids (ix2 r (chan g k)) := by
  unfold groups
  generalize kept X ids = K
  rw [shapeCast_apply _ _ (ix3 r g k) (ix2 r (chan g k)) (by
    rw [Shape.rowMajor_val_two, Shape.rowMajor_val_three]
    show r.val * 1024 + (32 * g.val + k.val) = (r.val * 32 + g.val) * 32 + k.val
    omega)]
  rfl

theorem reduces_groups : S12288x32x32.Reduces [2] S12288x32 := by decide

/-- The pattern of `-∞`. -/
theorem ofBits_bot : Ideal.ofBits .f32 0xFF800000#32 = ⊥ := by simp [Ideal.ofBits, Ideal.ieee]

/-- A fold by "maximum" from `-∞` is the supremum. -/
theorem fold_max {n : ℕ} (f : Fin n → EReal) : Finset.univ.fold max (⊥ : EReal) f = ⨆ k, f k := by
  refine eq_of_forall_ge_iff fun y => ?_
  rw [Finset.fold_max_le, iSup_le_iff]
  simp

/-- The largest magnitude of a group is the supremum over its channels. -/
theorem largest_apply (W : FVec Ideal S12288x32x32 .f32) (r : Fin 12288) (g : Fin 32) :
    largest W (ix2 r g) = ⨆ k : Fin 32, max (W (ix3 r g k)) (-(W (ix3 r g k)) : EReal) := by
  unfold largest
  rw [Host.reduce_eq_fold_single FloatOps.maximumf _ _ _ reduces_groups h_S_]
  show Finset.univ.fold max (Ideal.ofBits .f32 0xFF800000#32) _ = _
  rw [ofBits_bot]
  refine (fold_max (n := 32) _).trans (iSup_congr fun k => ?_)
  have e : reduces_groups.lift (ix2 r g) k = ix3 r g k := by
    funext a; match a with
    | ⟨0, _⟩ => rfl
    | ⟨1, _⟩ => rfl
    | ⟨2, _⟩ => rfl
  show Host.absf W (reduces_groups.lift (ix2 r g) k) = _
  rw [e]
  rfl

/-- A constant read anywhere. -/
theorem everywhere_apply (b : BitVec 32) (i : S12288x32.Idx) : everywhere b i = Ideal.ofBits .f32 b := rfl

/-- The exponent of a scale, from the group's largest magnitude. -/
def exponentOf (a : EReal) : EReal :=
  if a = 0 then 0
  else max (Ideal.liftRound Int.floor (Ideal.div (Ideal.log (a * Ideal.ofBits .f32 0x3B124925#32)) (Ideal.log (Ideal.ofBits .f32 0x40000000#32)))
    + Ideal.ofBits .f32 0x3F800000#32) (Ideal.ofBits .f32 0xC2FC0000#32)

/-- The exponents, group by group. -/
theorem exponent_apply (A : FVec Ideal S12288x32 .f32) (i : S12288x32.Idx) : exponent A i = exponentOf (A i) := by
  show Scalar.select (Ideal.cmp .oeq (A i) (Ideal.ofBits .f32 0x00000000#32)) (Ideal.ofBits .f32 0x00000000#32)
    (max (Ideal.liftRound Int.floor (Ideal.div (Ideal.log (A i * Ideal.ofBits .f32 0x3B124925#32)) (Ideal.log (Ideal.ofBits .f32 0x40000000#32)))
      + Ideal.ofBits .f32 0x3F800000#32) (Ideal.ofBits .f32 0xC2FC0000#32)) = exponentOf (A i)
  unfold exponentOf
  rw [Ideal.ofBits_zero_f32]
  show Scalar.select (BitVec.ofBool (decide (A i = (0 : EReal)))) _ _ = _
  by_cases h : A i = (0 : EReal)
  · rw [if_pos h, decide_eq_true h]; rfl
  · rw [if_neg h, decide_eq_false h]; rfl

/-- A scale is two to the exponent. -/
theorem scales_apply (A : FVec Ideal S12288x32 .f32) (i : S12288x32.Idx) :
    scales A i = Ideal.pow (Ideal.ofBits .f32 0x40000000#32) (exponentOf (A i)) := by
  rw [← exponent_apply]; rfl

/-- An inverse scale is two to the negated exponent. -/
theorem inverses_apply (A : FVec Ideal S12288x32 .f32) (i : S12288x32.Idx) :
    inverses A i = Ideal.pow (Ideal.ofBits .f32 0x40000000#32) (-(exponentOf (A i))) := by
  rw [← exponent_apply]; rfl

/-! ## The region's operands -/

/-- The group of a channel, and the channel's place in it. -/
abbrev grp (d : Fin 1024) : Fin 32 := ⟨d.val / 32, by omega⟩
/-- The channel's place in its group. -/
abbrev pos (d : Fin 1024) : Fin 32 := ⟨d.val % 32, Nat.mod_lt _ (by decide)⟩

/-- Row and channel against row, group and place. -/
theorem split_index (r : Fin 12288) (d : Fin 1024) : (S12288x32x32.rowMajor (ix3 r (grp d) (pos d))).val = (S12288x1024.rowMajor (ix2 r d)).val := by
  rw [Shape.rowMajor_val_two, Shape.rowMajor_val_three]
  show (r.val * 32 + d.val / 32) * 32 + d.val % 32 = r.val * 1024 + d.val
  omega

/-- A clipped element. -/
theorem clipped_apply (W : FVec Ideal S12288x32x32 .f32) (A : FVec Ideal S12288x32 .f32) (r : Fin 12288) (d : Fin 1024) :
    clipped W A (ix2 r d) = min (Ideal.ofBits .f32 0x43E00000#32) (max (Ideal.ofBits .f32 0xC3E00000#32)
      (W (ix3 r (grp d) (pos d)) * inverses A (ix2 r (grp d)))) := by
  unfold clipped
  generalize inverses A = B
  rw [shapeCast_apply _ _ (ix2 r d) (ix3 r (grp d) (pos d)) (split_index r d)]
  show min (Ideal.ofBits .f32 0x43E00000#32) (max (Ideal.ofBits .f32 0xC3E00000#32)
    (W (ix3 r (grp d) (pos d)) * broadcastInDim S12288x32x32 ![0, 1, 2] bcast_S12288x32x1_S12288x32x32_0_1_2
      (broadcastInDim S12288x32x1 ![0, 1] bcast_S12288x32_S12288x32x1_0_1 B) (ix3 r (grp d) (pos d)))) = _
  rw [broadcastInDim_apply _ _ _ (ix3 r (grp d) (pos d)) (ix3 r (grp d) (0 : Fin 1))
      (fun a => by match a with | ⟨0, _⟩ => rfl | ⟨1, _⟩ => rfl | ⟨2, _⟩ => rfl),
    broadcastInDim_apply _ _ _ (ix3 r (grp d) (0 : Fin 1)) (ix2 r (grp d)) (fun a => by match a with | ⟨0, _⟩ => rfl | ⟨1, _⟩ => rfl)]

/-- The scale that a channel reads is its group's. -/
theorem scalesWide_apply (A : FVec Ideal S12288x32 .f32) (r : Fin 12288) (d : Fin 1024) : scalesWide A (ix2 r d) = scales A (ix2 r (grp d)) := by
  unfold scalesWide
  generalize scales A = B
  rw [shapeCast_apply _ _ (ix2 r d) (ix3 r (grp d) (pos d)) (split_index r d),
    broadcastInDim_apply _ _ _ (ix3 r (grp d) (pos d)) (ix2 r (grp d)) (fun a => by match a with | ⟨0, _⟩ => rfl | ⟨1, _⟩ => rfl)]
  rfl

/-- The weight scale that a channel reads is its group's. -/
theorem weightScalesWide_apply (S : FVec Ideal S32x5376 .f32) (d : Fin 1024) (n : Fin 5376) : weightScalesWide S (ix2 d n) = S (ix2 (grp d) n) := by
  unfold weightScalesWide
  rw [shapeCast_apply _ _ (ix2 d n) (ix3 (grp d) (pos d) n) (by
      rw [Shape.rowMajor_val_two, Shape.rowMajor_val_three]
      show (d.val / 32 * 32 + d.val % 32) * 5376 + n.val = d.val * 5376 + n.val
      rw [Nat.div_add_mod' d.val 32]),
    broadcastInDim_apply _ _ _ (ix3 (grp d) (pos d) n) (ix2 (grp d) n) (fun a => by match a with | ⟨0, _⟩ => rfl | ⟨1, _⟩ => rfl)]
  rfl

/-- An outlier column is the input's column at the listed index, when that index is a channel. -/
theorem outliers_apply (X : FVec Ideal S12288x1024 .bf16) (ids : IVec S128 32) (r : Fin 12288) (k : Fin 128) (d : Fin 1024)
    (hd : (ids (ix1 k)).toInt.toNat = d.val) : outliers X ids (ix2 r k) = X (ix2 r d) := by
  unfold outliers Host.gather
  refine congrArg X ?_
  funext a
  refine Fin.ext ?_
  show gather_S12288x1024_S128x1_S12288x128_0_1_n_n_1_1_122881.start (ix2 r k) _ a
    + gather_S12288x1024_S128x1_S12288x128_0_1_n_n_1_1_122881.batchCoord (ix2 r k) a
    + gather_S12288x1024_S128x1_S12288x128_0_1_n_n_1_1_122881.offCoord (ix2 r k) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [Nat.add_zero]
    unfold GatherDims.start GatherDims.offCoord
    rw [dif_neg (show ¬ (0 : Fin 2) ∈ gather_S12288x1024_S128x1_S12288x128_0_1_n_n_1_1_122881.startIndexMap from by
      show ¬ (0 : Fin 2) ∈ ([1] : List (Fin 2)); decide)]
    rw [dif_pos ((GatherDims.mem_sKept _ _).mpr ⟨show ¬ (0 : Fin 2) ∈ ([1] : List (Fin 2)) by decide, List.not_mem_nil⟩), Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S12288x1024_S128x1_S12288x128_0_1_n_n_1_1_122881.startIndexMap from List.mem_singleton.mpr rfl)]
    have hsi : gather_S12288x1024_S128x1_S12288x128_0_1_n_n_1_1_122881.siIdx (ix2 r k)
        ⟨List.idxOf (1 : Fin 2) gather_S12288x1024_S128x1_S12288x128_0_1_n_n_1_1_122881.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi, broadcastInDim_apply _ _ _ (ix2 k (0 : Fin 1)) (ix1 k) (fun a => by match a with | ⟨0, _⟩ => rfl)]
    show min (ids (ix1 k)).toInt.toNat (1024 - 1) = d.val
    rw [hd]; omega

end Cert.Host
-- ==== Proof.QuantVec.lean ====
/- The vectors one trip of the kernel's quantization loop computes, as named combinators: the lane gather, the group
   maximum by exchanging halves, the power-of-two scale found by searching its exponent field, and the codes. -/
module

public import proofs.«01_k».proof.Proof.Gen.KernelIdeal.Value

@[expose] public section

noncomputable section

namespace Cert.Quant

open Idealize.ShloMosaic Idealize.ShloMosaic.TcCoe
open Cert.KernelIdeal Cert.KernelIdeal.Gen

variable {F : FTy → Type} [FloatOps F]

/-- The lane number of every element. -/
def lane : IVec S16x128 32 := iota .tc S16x128 32 [1] iota_S16x128_d1_w32

/-- A lane index read as the gather reads it: a negative one counted from the end. -/
def wrap16 (s : IVec S16x128 32) : IVec S16x128 32 :=
  shapeCast S16x128 (shapeCast S16x128x1 (select (cmpi .slt s (broadcast S16x128 0#32)) (addi s (broadcast S16x128 128#32)) s)
    shapeCasts_S16x128_S16x128x1) shapeCasts_S16x128x1_S16x128

/-- Each row of `v` at the lanes `s` names. -/
def gat (v : FVec F S16x128 .bf16) (s : IVec S16x128 32) : FVec F S16x128 .bf16 :=
  truncf .bf16 (dynamicGather 1 (extf .f32 v bitsLt_bf16_f32) (wrap16 s)) bitsLt_bf16_f32

/-- Whether the lane number has bit `m`. -/
def hasBit (m : BitVec 32) : IVec S16x128 1 :=
  cmpi .ne (andi lane (broadcast S16x128 m)) (broadcast S16x128 0#32)

/-- One exchange of the group maximum: lanes with bit `m` keep `b` and receive `b`'s partner lane, the others `a`. -/
def merge (m : BitVec 32) (a b : FVec F S16x128 .bf16) : FVec F S16x128 .bf16 :=
  maximumf (select (hasBit m) b a) (gat (select (hasBit m) a b) (xori lane (broadcast S16x128 m)))

/-- The maximum with the lane `m` away. -/
def spread (m : BitVec 32) (a : FVec F S16x128 .bf16) : FVec F S16x128 .bf16 :=
  maximumf a (gat a (xori lane (broadcast S16x128 m)))

/-- The group maxima of eight lane blocks, packed into one. -/
def groupMax (x : Fin 8 → FVec F S16x128 .bf16) : FVec F S16x128 .bf16 :=
  spread 1#32 (spread 2#32 (merge 4#32
    (merge 8#32 (merge 16#32 (absf (x 0)) (absf (x 1))) (merge 16#32 (absf (x 2)) (absf (x 3))))
    (merge 8#32 (merge 16#32 (absf (x 4)) (absf (x 5))) (merge 16#32 (absf (x 6)) (absf (x 7))))))

/-- A group maximum over the largest code. -/
def ratio (a : FVec F S16x128 .bf16) : FVec F S16x128 .f32 :=
  mulf (extf .f32 a bitsLt_bf16_f32) (broadcast S16x128 (Scalar.ofBits .f32 0x3B124925#32))

/-- One step of the search: keep bit `c` of the pattern unless the pattern with it exceeds `p`. -/
def searchStep (p : FVec F S16x128 .f32) (b : IVec S16x128 32) (c : BitVec 32) : IVec S16x128 32 :=
  select (cmpf .olt p (bitcastToFloat .f32 (ori b (broadcast S16x128 c)))) b (ori b (broadcast S16x128 c))

/-- The exponent field of `p`, its eight bits searched from the highest. -/
def search (p : FVec F S16x128 .f32) : IVec S16x128 32 :=
  searchStep p (searchStep p (searchStep p (searchStep p (searchStep p (searchStep p (searchStep p (searchStep p
    (broadcast S16x128 0#32) 1073741824#32) 536870912#32) 268435456#32) 134217728#32) 67108864#32) 33554432#32)
    16777216#32) 8388608#32

/-- The exponent field the scale is made of: that of one for a zero (or an infinite) ratio. -/
def field (p : FVec F S16x128 .f32) : IVec S16x128 32 :=
  select (ori (cmpf .oeq p (broadcast S16x128 (Scalar.ofBits .f32 0x00000000#32))) (cmpi .eq (search p) (broadcast S16x128 2139095040#32)))
    (broadcast S16x128 1056964608#32) (search p)

/-- The scale of the packed groups. -/
def scales (p : FVec F S16x128 .f32) : FVec F S16x128 .f32 :=
  bitcastToFloat .f32 (addi (field p) (broadcast S16x128 8388608#32))

/-- The inverse of the scale of the packed groups. -/
def inverses (p : FVec F S16x128 .f32) : FVec F S16x128 .bf16 :=
  truncf .bf16 (bitcastToFloat .f32 (subi (broadcast S16x128 2122317824#32) (field p))) bitsLt_bf16_f32

/-- The lane each output column's scale is packed at. -/
def unpackLane : IVec S16x128 32 :=
  have j : IVec S16x128 32 := andi (shrsi lane (broadcast S16x128 2#32)) (broadcast S16x128 7#32)
  addi (addi (addi (muli (broadcast S16x128 32#32) (andi lane (broadcast S16x128 3#32)))
    (muli (broadcast S16x128 16#32) (andi j (broadcast S16x128 1#32))))
    (muli (broadcast S16x128 8#32) (andi (shrsi j (broadcast S16x128 1#32)) (broadcast S16x128 1#32))))
    (muli (broadcast S16x128 4#32) (andi (shrsi j (broadcast S16x128 2#32)) (broadcast S16x128 1#32)))

/-- `unpackLane` of eight rows, read as the gather reads it. -/
def wrap8 : IVec S8x128 32 :=
  have s : IVec S8x128 32 := extractStridedSlice S8x128 ![0, 0] unpackLane slices_S16x128_o0_0_S8x128
  shapeCast S8x128 (shapeCast S8x128x1 (select (cmpi .slt s (broadcast S8x128 0#32)) (addi s (broadcast S8x128 128#32)) s)
    shapeCasts_S8x128_S8x128x1) shapeCasts_S8x128x1_S8x128

/-- The scales of eight rows, one column a group. -/
def scaleRows (s : FVec F S8x128 .f32) : FVec F S8x32 .f32 :=
  extractStridedSlice S8x32 ![0, 0] (dynamicGather 1 s wrap8) slices_S8x128_o0_0_S8x32

/-- The first eight rows' scales. -/
def scaleRowsLo (s : FVec F S16x128 .f32) : FVec F S8x32 .f32 :=
  scaleRows (extractStridedSlice S8x128 ![0, 0] s slices_S16x128_o0_0_S8x128)

/-- The last eight rows' scales. -/
def scaleRowsHi (s : FVec F S16x128 .f32) : FVec F S8x32 .f32 :=
  scaleRows (extractStridedSlice S8x128 ![8, 0] s slices_S16x128_o8_0_S8x128)

/-- The lane the group of each lane of a block is packed at; `a`, `b`, `c` are the block number's bits, weighted. -/
def blockLane (a b c : BitVec 32) : IVec S16x128 32 :=
  addi (addi (addi (muli (broadcast S16x128 32#32) (shrsi lane (broadcast S16x128 5#32))) (broadcast S16x128 a))
    (broadcast S16x128 b)) (broadcast S16x128 c)

/-- Two halves, one above the other. -/
def stack (u v : FVec F S16x128 .bf16) : FVec F S32x128 .bf16 :=
  concatenate S32x128 0 [⟨S16x128, u⟩, ⟨S16x128, v⟩] concatenates_S16x128_S16x128_S32x128_d0

/-- The codes of one block of 32 rows and 128 lanes: `x` times the mask times the inverse scales, clipped, cast. -/
def codes (i0 i1 : FVec F S16x128 .bf16) (src : IVec S16x128 32) (x : FVec F S32x128 .bf16) (kp : FVec F S16x128 .bf16) :
    FVec F S32x128 .fp8e4m3 :=
  truncf .fp8e4m3
    (minimumf (broadcast S32x128 (Scalar.truncf .bf16 bitsLt_bf16_f32 (Scalar.ofBits .f32 0x43E00000#32)))
      (maximumf (broadcast S32x128 (Scalar.truncf .bf16 bitsLt_bf16_f32 (Scalar.ofBits .f32 0xC3E00000#32)))
        (mulf (mulf (shapeCast S32x128 x shapeCasts_S32x128_S32x128) (stack kp kp)) (stack (gat i0 src) (gat i1 src)))))
    bitsLt_fp8e4m3_bf16

/-- The row block the product reads: the codes times their scales, and `x` itself where the mask is zero. -/
def mixed (i0 i1 : FVec F S16x128 .bf16) (s0 s1 : FVec F S16x128 .f32) (src : IVec S16x128 32) (x : FVec F S32x128 .bf16)
    (kp : FVec F S16x128 .bf16) : FVec F S32x128 .bf16 :=
  shapeCast S32x128 (addf
    (mulf (extf .bf16 (codes i0 i1 src x kp) bitsLt_fp8e4m3_bf16)
      (stack (gat (truncf .bf16 s0 bitsLt_bf16_f32) src) (gat (truncf .bf16 s1 bitsLt_bf16_f32) src)))
    (mulf (shapeCast S32x128 x shapeCasts_S32x128_S32x128)
      (subf (broadcast S32x128 (Scalar.ofBits .bf16 0x3F80#16)) (stack kp kp)))) shapeCasts_S32x128_S32x128

/-- A block of `x` times its mask. -/
def masked (x kp : FVec F S16x128 .bf16) : FVec F S16x128 .bf16 :=
  mulf (shapeCast S16x128 x shapeCasts_S16x128_S16x128) kp

end Cert.Quant

end
-- ==== Proof.Exponent.lean ====
/- The power-of-two scale of one group ratio, on the extended reals: what the eight-step search for the exponent field
   of an f32 pattern finds, and the scale and the inverse made of that field. -/
module

public import proofs.«01_k».proof.Proof.QuantVec
public import Idealize.ShloMosaic.PureOps.Ideal
public import Idealize.ShloMosaic.Lib.IdealHost
public import Idealize.ShloMosaic.Lib.ValueIdx
public import Mathlib.Analysis.SpecialFunctions.Log.Basic

@[expose] public section

noncomputable section

namespace Cert.Quant

open Idealize.ShloMosaic Idealize.ShloMosaic.ValueIdx
open Cert.KernelIdeal Cert.KernelIdeal.Gen

/-- The f32 pattern of sign 0, exponent field `n` and fraction 0. -/
def pat (n : ℕ) : BitVec 32 := BitVec.ofNat 32 (n * 8388608)

theorem pat_field : ∀ n : Fin 256, (BitVec.extractLsb' 23 8 (pat n.val)).toNat = n.val := by decide +kernel
theorem pat_frac : ∀ n : Fin 256, (BitVec.extractLsb' 0 23 (pat n.val)).toNat = 0 := by decide +kernel
theorem pat_sign : ∀ n : Fin 256, (BitVec.extractLsb' (8 + 23) 1 (pat n.val) == 1#1) = false := by decide +kernel

/-- A normal exponent field `n` with fraction 0 denotes `2 ^ (n - 127)`. -/
theorem ieee_pow (b : BitVec 32) (n : ℕ) (h1 : n ≠ 0) (h2 : n ≠ 255)
    (hs : (BitVec.extractLsb' (8 + 23) 1 b == 1#1) = false) (he : (BitVec.extractLsb' 23 8 b).toNat = n)
    (hf : (BitVec.extractLsb' 0 23 b).toNat = 0) :
    Ideal.ieee 8 23 b = (((2 : ℝ) ^ ((n : ℤ) - 127) : ℝ) : EReal) := by
  unfold Ideal.ieee
  simp only [hs, he, hf]
  rw [if_neg (show ¬ n = 2 ^ 8 - 1 from h2), if_neg h1]
  refine congrArg Real.toEReal ?_
  have e23 : (((2 ^ 23 + 0 : ℕ)) : ℝ) = (2 : ℝ) ^ (23 : ℤ) := by norm_num
  rw [e23, if_neg (by decide), one_mul, ← zpow_add₀ (by norm_num : (2 : ℝ) ≠ 0)]
  congr 1
  norm_num

/-- The pattern of a normal exponent field denotes a power of two. -/
theorem ofBits_pat (n : ℕ) (h1 : 1 ≤ n) (h2 : n ≤ 254) :
    Ideal.ofBits .f32 (pat n) = (((2 : ℝ) ^ ((n : ℤ) - 127) : ℝ) : EReal) :=
  ieee_pow (pat n) n (by omega) (by omega) (pat_sign ⟨n, by omega⟩) (pat_field ⟨n, by omega⟩) (pat_frac ⟨n, by omega⟩)

/-- The all-ones exponent field denotes `+∞`. -/
theorem ofBits_pat_255 : Ideal.ofBits .f32 (pat 255) = ⊤ := by
  show Ideal.ieee 8 23 (pat 255) = ⊤
  unfold Ideal.ieee
  rw [show (BitVec.extractLsb' 23 8 (pat 255)).toNat = 255 from pat_field 255,
    show (BitVec.extractLsb' 0 23 (pat 255)).toNat = 0 from pat_frac 255,
    show (BitVec.extractLsb' (8 + 23) 1 (pat 255) == 1#1) = false from pat_sign 255]
  rfl

/-- One step of the search, on one element. -/
def step (p : EReal) (b c : BitVec 32) : BitVec 32 :=
  Scalar.select (FloatOps.cmpf (F := Ideal) (φ := .f32) .olt p (Ideal.ofBits .f32 (b ||| c))) b (b ||| c)

/-- The search, on one element. -/
def find (p : EReal) : BitVec 32 :=
  step p (step p (step p (step p (step p (step p (step p (step p 0#32 1073741824#32) 536870912#32) 268435456#32)
    134217728#32) 67108864#32) 33554432#32) 16777216#32) 8388608#32

theorem searchStep_apply (p : FVec Ideal S16x128 .f32) (b : IVec S16x128 32) (c : BitVec 32) (i : S16x128.Idx) :
    searchStep p b c i = step (p i) (b i) c := rfl

theorem search_apply (p : FVec Ideal S16x128 .f32) (i : S16x128.Idx) : search p i = find (p i) := by
  unfold search find
  rw [searchStep_apply, searchStep_apply, searchStep_apply, searchStep_apply, searchStep_apply, searchStep_apply, searchStep_apply,
    searchStep_apply]
  rfl

theorem pat_or : ∀ (s : Fin 256) (k : Fin 8), pat s.val ||| BitVec.ofNat 32 (2 ^ (23 + k.val)) = pat (s.val ||| 2 ^ k.val) := by
  decide +kernel

/-- The search for a number below 255, bit by bit. -/
def stepNat (N s k : ℕ) : ℕ := if N < s ||| 2 ^ k then s else s ||| 2 ^ k

theorem stepNat_lt (N s k : ℕ) (hs : s < 256) (hk : k < 8) : stepNat N s k < 256 := by
  have : s ||| 2 ^ k < 2 ^ 8 := Nat.or_lt_two_pow hs (Nat.pow_lt_pow_right (by decide) hk)
  unfold stepNat; split <;> omega

theorem search_nat : ∀ N : Fin 255, stepNat N (stepNat N (stepNat N (stepNat N (stepNat N (stepNat N (stepNat N (stepNat N
    0 7) 6) 5) 4) 3) 2) 1) 0 = N.val := by decide +kernel

/-- A step on patterns is the step on their exponent fields, if `p` compares with powers of two as `N` with exponents. -/
theorem step_pat (p : EReal) (N : ℕ) (hN : ∀ c, 1 ≤ c → c ≤ 255 → (p < Ideal.ofBits .f32 (pat c) ↔ N < c))
    (s k : ℕ) (hs : s < 256) (hk : k < 8) (c : BitVec 32) (hc : c = BitVec.ofNat 32 (2 ^ (23 + k))) :
    step p (pat s) c = pat (stepNat N s k) := by
  subst hc
  have ho := pat_or ⟨s, hs⟩ ⟨k, hk⟩
  have hlt : s ||| 2 ^ k < 2 ^ 8 := Nat.or_lt_two_pow hs (Nat.pow_lt_pow_right (by decide) hk)
  have hpos : 1 ≤ s ||| 2 ^ k := le_trans Nat.one_le_two_pow Nat.right_le_or
  unfold step stepNat
  simp only at ho
  rw [ho]
  have hcmp : FloatOps.cmpf (F := Ideal) (φ := .f32) .olt p (Ideal.ofBits .f32 (pat (s ||| 2 ^ k)))
      = BitVec.ofBool (decide (p < Ideal.ofBits .f32 (pat (s ||| 2 ^ k)))) := rfl
  rw [hcmp]
  by_cases h : N < s ||| 2 ^ k
  · rw [if_pos h, decide_eq_true ((hN _ hpos (by omega)).mpr h)]; rfl
  · rw [if_neg h, decide_eq_false (fun h' => h ((hN _ hpos (by omega)).mp h'))]; rfl

/-- The search finds the exponent field. -/
theorem find_eq (p : EReal) (N : ℕ) (h : N < 255) (hN : ∀ c, 1 ≤ c → c ≤ 255 → (p < Ideal.ofBits .f32 (pat c) ↔ N < c)) :
    find p = pat N := by
  have key := search_nat ⟨N, h⟩
  simp only at key
  unfold find
  rw [show (0#32 : BitVec 32) = pat 0 from rfl,
    step_pat p N hN 0 7 (by decide) (by decide) 1073741824#32 (by decide +kernel),
    step_pat p N hN _ 6 (stepNat_lt _ _ _ (by decide) (by decide)) (by decide) 536870912#32 (by decide +kernel)]
  have h6 := stepNat_lt N _ 6 (stepNat_lt N 0 7 (by decide) (by decide)) (by decide)
  have h5 := stepNat_lt N _ 5 h6 (by decide)
  have h4 := stepNat_lt N _ 4 h5 (by decide)
  have h3 := stepNat_lt N _ 3 h4 (by decide)
  have h2 := stepNat_lt N _ 2 h3 (by decide)
  have h1 := stepNat_lt N _ 1 h2 (by decide)
  rw [step_pat p N hN _ 5 h6 (by decide) 268435456#32 (by decide +kernel), step_pat p N hN _ 4 h5 (by decide) 134217728#32 (by decide +kernel),
    step_pat p N hN _ 3 h4 (by decide) 67108864#32 (by decide +kernel), step_pat p N hN _ 2 h3 (by decide) 33554432#32 (by decide +kernel),
    step_pat p N hN _ 1 h2 (by decide) 16777216#32 (by decide +kernel), step_pat p N hN _ 0 h1 (by decide) 8388608#32 (by decide +kernel), key]

/-- The binary exponent of a positive real. -/
def lg (r : ℝ) : ℤ := ⌊Real.log r / Real.log 2⌋

/-- A positive real lies below a power of two as its exponent lies below the power's. -/
theorem lt_zpow_iff (r : ℝ) (hr : 0 < r) (z : ℤ) : r < (2 : ℝ) ^ z ↔ lg r < z := by
  have h2 : (0 : ℝ) < Real.log 2 := Real.log_pos (by norm_num)
  unfold lg
  rw [Int.floor_lt, div_lt_iff₀ h2, ← Real.log_zpow, Real.log_lt_log_iff hr (by positivity)]

/-- The exponent field of a positive real, a subnormal one's being 0. -/
def expo (r : ℝ) : ℕ := (lg r + 127).toNat

/-- A positive real compares with powers of two as its exponent field with exponents. -/
theorem lt_pat_iff (r : ℝ) (hr : 0 < r) (h : r < (2 : ℝ) ^ (120 : ℤ)) (c : ℕ) (h1 : 1 ≤ c) (h2 : c ≤ 255) :
    ((r : EReal) < Ideal.ofBits .f32 (pat c) ↔ expo r < c) := by
  have hlog : lg r < 120 := (lt_zpow_iff r hr 120).mp h
  unfold expo
  rcases Nat.lt_or_ge c 255 with hc | hc
  · rw [ofBits_pat c h1 (by omega), EReal.coe_lt_coe_iff]
    rw [lt_zpow_iff r hr]
    omega
  · have : c = 255 := by omega
    subst this
    rw [ofBits_pat_255]
    refine iff_of_true (EReal.coe_lt_top r) ?_
    omega

theorem expo_lt (r : ℝ) (hr : 0 < r) (h : r < (2 : ℝ) ^ (120 : ℤ)) : expo r < 247 := by
  have hlog : lg r < 120 := (lt_zpow_iff r hr 120).mp h
  unfold expo; omega

/-- The field the scale is made of, on one element. -/
def fieldOf (p : EReal) : BitVec 32 :=
  Scalar.select (FloatOps.cmpf (F := Ideal) (φ := .f32) .oeq p (Ideal.ofBits .f32 0x00000000#32) ||| IntOp.cmpi .eq (find p) 2139095040#32)
    1056964608#32 (find p)

/-- The scale of a ratio. -/
def scaleOf (p : EReal) : EReal := Ideal.ofBits .f32 (fieldOf p + 8388608#32)

/-- The inverse scale of a ratio. -/
def inverseOf (p : EReal) : EReal := Ideal.ofBits .f32 (2122317824#32 - fieldOf p)

theorem field_apply (p : FVec Ideal S16x128 .f32) (i : S16x128.Idx) : field p i = fieldOf (p i) := by
  unfold fieldOf
  rw [← search_apply]
  rfl

theorem scales_apply (p : FVec Ideal S16x128 .f32) (i : S16x128.Idx) : scales p i = scaleOf (p i) := by
  unfold scaleOf
  rw [← field_apply]
  rfl

theorem inverses_apply (p : FVec Ideal S16x128 .f32) (i : S16x128.Idx) : inverses p i = inverseOf (p i) := by
  unfold inverseOf
  rw [← field_apply]
  rfl

theorem pat_succ : ∀ n : Fin 255, pat n.val + 8388608#32 = pat (n.val + 1) := by decide +kernel
theorem pat_sub : ∀ n : Fin 253, 2122317824#32 - pat n.val = pat (253 - n.val) := by decide +kernel
theorem pat_ne : ∀ n : Fin 255, IntOp.cmpi .eq (pat n.val) 2139095040#32 = 0#1 := by decide +kernel

theorem ofBits_zero : Ideal.ofBits .f32 0x00000000#32 = 0 := by
  show Ideal.ieee 8 23 (0x00000000#32) = 0
  unfold Ideal.ieee
  rw [show (BitVec.extractLsb' 23 8 (0x00000000#32)).toNat = 0 by decide, show (BitVec.extractLsb' 0 23 (0x00000000#32)).toNat = 0 by decide]
  simp

/-- The exponent of the scale of a ratio: one above the ratio's own, at least -126; 0 for a zero ratio. -/
def scaleExp (r : ℝ) : ℤ := if r = 0 then 0 else max (lg r + 1) (-126)

theorem fieldOf_zero : fieldOf 0 = pat 126 := by
  unfold fieldOf
  rw [ofBits_zero, show FloatOps.cmpf (F := Ideal) (φ := .f32) .oeq (0 : EReal) (0 : EReal) = 1#1 from by
    show BitVec.ofBool (decide _) = _; simp]
  have : ∀ b : BitVec 1, 1#1 ||| b = 1#1 := by decide
  rw [this]; rfl

theorem fieldOf_pos (r : ℝ) (hr : 0 < r) (h : r < (2 : ℝ) ^ (120 : ℤ)) : fieldOf r = pat (expo r) := by
  have hl := expo_lt r hr h
  have hf := find_eq (r : EReal) (expo r) (by omega) (lt_pat_iff r hr h)
  unfold fieldOf
  rw [hf, pat_ne ⟨expo r, by omega⟩, ofBits_zero, show FloatOps.cmpf (F := Ideal) (φ := .f32) .oeq (r : EReal) (0 : EReal) = 0#1 from by
    show BitVec.ofBool (decide _) = _
    have : ¬ ((r : EReal) = 0) := by exact_mod_cast hr.ne'
    simp [this]]
  rfl

/-- The scale of a ratio is the power of two of its exponent. -/
theorem scaleOf_eq (r : ℝ) (h0 : 0 ≤ r) (h : r < (2 : ℝ) ^ (120 : ℤ)) :
    scaleOf r = (((2 : ℝ) ^ scaleExp r : ℝ) : EReal) := by
  unfold scaleOf scaleExp
  rcases h0.eq_or_lt with rfl | hr
  · rw [if_pos rfl, EReal.coe_zero, fieldOf_zero, show pat 126 + 8388608#32 = pat 127 from by decide +kernel, ofBits_pat 127 (by decide) (by decide)]
    norm_num
  · have hl := expo_lt r hr h
    rw [if_neg hr.ne', fieldOf_pos r hr h, pat_succ ⟨expo r, by omega⟩, ofBits_pat _ (by simp) (by simp; omega)]
    refine congrArg (fun z : ℤ => (((2 : ℝ) ^ z : ℝ) : EReal)) ?_
    simp only [expo]; omega

/-- The inverse scale of a ratio is the reciprocal power of two. -/
theorem inverseOf_eq (r : ℝ) (h0 : 0 ≤ r) (h : r < (2 : ℝ) ^ (120 : ℤ)) :
    inverseOf r = (((2 : ℝ) ^ (-scaleExp r) : ℝ) : EReal) := by
  unfold inverseOf scaleExp
  rcases h0.eq_or_lt with rfl | hr
  · rw [if_pos rfl, EReal.coe_zero, fieldOf_zero, show 2122317824#32 - pat 126 = pat 127 from by decide +kernel, ofBits_pat 127 (by decide) (by decide)]
    norm_num
  · have hl := expo_lt r hr h
    rw [if_neg hr.ne', fieldOf_pos r hr h, pat_sub ⟨expo r, by omega⟩, ofBits_pat _ (by simp; omega) (by simp; omega)]
    refine congrArg (fun z : ℤ => (((2 : ℝ) ^ z : ℝ) : EReal)) ?_
    simp only [expo] at hl ⊢; omega

end Cert.Quant

end
-- ==== Proof.ScaleEq.lean ====
/- The reference's scale and the kernel's, from one group's largest magnitude. -/
module

public import proofs.«01_k».proof.Proof.Reading
public import proofs.«01_k».proof.Proof.Exponent

@[expose] public section

set_option maxRecDepth 8192

noncomputable section

namespace Cert.Equal

open Idealize.ShloMosaic Idealize.ShloMosaic.TcCoe Idealize.ShloMosaic.ValueIdx Idealize.SL.Sem
open Cert.Quant Cert.Host

/-! ## The constants -/

/-- The factor on the magnitude is a positive real of at most `2 ^ (-8)`. -/
theorem factor_eq : ∃ f : ℝ, 0 < f ∧ f ≤ (2 : ℝ) ^ (-8 : ℤ) ∧ Ideal.ofBits .f32 0x3B124925#32 = (f : EReal) := by
  refine ⟨((2 ^ 23 + 1198373 : ℕ) : ℝ) * (2 : ℝ) ^ ((118 : ℤ) - 127 - 23), by positivity, ?_, ?_⟩
  · rw [show ((118 : ℤ) - 127 - 23) = -24 + -8 by norm_num, zpow_add₀ (by norm_num : (2 : ℝ) ≠ 0), ← mul_assoc]
    refine mul_le_of_le_one_left (by positivity) ?_
    norm_num
  · show Ideal.ieee 8 23 (0x3B124925#32) = _
    unfold Ideal.ieee
    rw [show (BitVec.extractLsb' 23 8 (0x3B124925#32)).toNat = 118 by decide, show (BitVec.extractLsb' 0 23 (0x3B124925#32)).toNat = 1198373 by decide,
      show (BitVec.extractLsb' (8 + 23) 1 (0x3B124925#32) == 1#1) = false by decide]
    norm_num

/-- The pattern of 2. -/
theorem ofBits_two : Ideal.ofBits .f32 0x40000000#32 = ((2 : ℝ) : EReal) := by
  rw [show (0x40000000#32 : BitVec 32) = pat 128 by decide]
  refine (ofBits_pat 128 (by decide) (by decide)).trans ?_
  norm_num

/-- The pattern of -126. -/
theorem ofBits_least : Ideal.ofBits .f32 0xC2FC0000#32 = ((-126 : ℝ) : EReal) := by
  show Ideal.ieee 8 23 (0xC2FC0000#32) = _
  unfold Ideal.ieee
  rw [show (BitVec.extractLsb' 23 8 (0xC2FC0000#32)).toNat = 133 by decide, show (BitVec.extractLsb' 0 23 (0xC2FC0000#32)).toNat = 8126464 by decide,
    show (BitVec.extractLsb' (8 + 23) 1 (0xC2FC0000#32) == 1#1) = true by decide]
  rw [if_neg (by decide), if_neg (by decide)]
  refine congrArg Real.toEReal ?_
  norm_num

/-! ## The exponent -/

/-- The reference's exponent of a real magnitude is the exponent of the kernel's scale at the magnitude's ratio. -/
theorem exponentOf_eq (a f : ℝ) (h0 : 0 ≤ a) (hf : 0 < f) (e : Ideal.ofBits .f32 0x3B124925#32 = (f : EReal)) :
    exponentOf (a : EReal) = ((scaleExp (a * f) : ℝ) : EReal) := by
  unfold exponentOf scaleExp
  rcases h0.eq_or_lt with rfl | ha
  · rw [if_pos EReal.coe_zero, if_pos (zero_mul f)]
    norm_num
  · have hp : 0 < a * f := mul_pos ha hf
    have h2 : Real.log 2 ≠ 0 := (Real.log_pos (by norm_num)).ne'
    have hz : ¬ ((a : EReal) = 0) := by exact_mod_cast ha.ne'
    rw [if_neg hz, if_neg hp.ne', e, ofBits_two, ofBits_least, Ideal.ofBits_one_f32, ← EReal.coe_mul, Ideal.log_coe, Ideal.log_coe,
      if_neg (not_le.mpr hp), if_neg (by norm_num : ¬ (2 : ℝ) ≤ 0), Ideal.div_coe h2, ← EReal.coe_mul, Ideal.liftRound_coe, mul_one_div]
    rw [← EReal.coe_one, ← EReal.coe_add, ← EReal.coe_strictMono.monotone.map_max]
    refine congrArg Real.toEReal ?_
    push_cast
    rfl

/-- Two to an integer exponent. -/
theorem pow_two (z : ℤ) : Ideal.pow (Ideal.ofBits .f32 0x40000000#32) ((z : ℝ) : EReal) = (((2 : ℝ) ^ z : ℝ) : EReal) := by
  rw [ofBits_two, Ideal.pow_coe_coe]
  exact congrArg Real.toEReal (Real.rpow_intCast 2 z)

/-- A magnitude below `2 ^ 128` has a ratio below `2 ^ 120`. -/
theorem ratio_lt (a f : ℝ) (ha : a < (2 : ℝ) ^ (128 : ℤ)) (hf : 0 < f) (hf8 : f ≤ (2 : ℝ) ^ (-8 : ℤ)) : a * f < (2 : ℝ) ^ (120 : ℤ) := by
  calc a * f < (2 : ℝ) ^ (128 : ℤ) * f := mul_lt_mul_of_pos_right ha hf
    _ ≤ (2 : ℝ) ^ (128 : ℤ) * (2 : ℝ) ^ (-8 : ℤ) := mul_le_mul_of_nonneg_left hf8 (by positivity)
    _ = (2 : ℝ) ^ (120 : ℤ) := by rw [← zpow_add₀ (by norm_num : (2 : ℝ) ≠ 0)]; norm_num

/-- The two programs give a group the same scale. -/
theorem scale_eq (a : ℝ) (h0 : 0 ≤ a) (h : a < (2 : ℝ) ^ (128 : ℤ)) :
    scaleOf ((a : EReal) * Ideal.ofBits .f32 0x3B124925#32) = Ideal.pow (Ideal.ofBits .f32 0x40000000#32) (exponentOf (a : EReal)) := by
  obtain ⟨f, hf, hf8, e⟩ := factor_eq
  rw [exponentOf_eq a f h0 hf e, pow_two, e, ← EReal.coe_mul, scaleOf_eq _ (by positivity) (ratio_lt a f h hf hf8)]

/-- The two programs give a group the same inverse scale. -/
theorem inverse_eq (a : ℝ) (h0 : 0 ≤ a) (h : a < (2 : ℝ) ^ (128 : ℤ)) :
    inverseOf ((a : EReal) * Ideal.ofBits .f32 0x3B124925#32) = Ideal.pow (Ideal.ofBits .f32 0x40000000#32) (-(exponentOf (a : EReal))) := by
  obtain ⟨f, hf, hf8, e⟩ := factor_eq
  rw [exponentOf_eq a f h0 hf e, ← EReal.coe_neg, ← Int.cast_neg, pow_two, e, ← EReal.coe_mul,
    inverseOf_eq _ (by positivity) (ratio_lt a f h hf hf8)]

end Cert.Equal
-- ==== Proof.GroupMax.lean ====
/- What the packed group maximum holds: at every lane, the largest absolute value of one group of 32 lanes. -/
module

public import proofs.«01_k».proof.Proof.QuantVec
public import Idealize.ShloMosaic.PureOps.Ideal
public import Idealize.ShloMosaic.Lib.ValueIdx

@[expose] public section

noncomputable section

namespace Cert.Quant

open Idealize.ShloMosaic Idealize.ShloMosaic.TcCoe Idealize.ShloMosaic.ValueIdx
open Cert.KernelIdeal Cert.KernelIdeal.Gen

/-- The lane number at an element. -/
theorem lane_apply (i : Fin 16) (l : Fin 128) : lane (ix2 i l) = BitVec.ofNat 32 l.val :=
  iota_single_apply .tc S16x128 32 1 iota_S16x128_d1_w32 (ix2 i l)

/-- A lane index within a row is read unchanged. -/
theorem wrap_small (s : BitVec 32) (h : s.toNat < 128) :
    Scalar.select (IntOp.cmpi .slt s 0#32) (s + 128#32) s = s := by
  have : s.slt 0#32 = false := by
    rw [BitVec.slt_zero_eq_msb, BitVec.msb_eq_false_iff_two_mul_lt]; omega
  show (if _ = 1#1 then _ else _) = _
  simp [IntOp.cmpi, this]

/-- The gather at an element: the row at the lane named. -/
theorem gat_apply (v : FVec Ideal S16x128 .bf16) (s : IVec S16x128 32) (i : Fin 16) (l k : Fin 128)
    (h : (s (ix2 i l)).toNat = k.val) : gat v s (ix2 i l) = v (ix2 i k) := by
  have hw : wrap16 s (ix2 i l) = s (ix2 i l) := by
    unfold wrap16; rw [shapeCast_shapeCast]
    exact wrap_small _ (by rw [h]; exact k.isLt)
  show v _ = v _
  congr 1
  funext b
  match b with
  | ⟨0, _⟩ => rfl
  | ⟨1, _⟩ =>
    apply Fin.ext
    show (wrap16 s (ix2 i l)).toNat % 128 = k.val
    rw [hw, h]; exact Nat.mod_eq_of_lt k.isLt

/-- Whether a lane's number has a bit of `m`. -/
def bit (m : ℕ) (l : Fin 128) : Bool := l.val &&& m != 0

/-- The lane whose number differs in the bits of `m`. -/
def partner (m : ℕ) (l : Fin 128) : Fin 128 := ⟨(l.val ^^^ m) % 128, Nat.mod_lt _ (by decide)⟩

/-- What the exchange needs of a lane mask: its bit, its partner lane, and that the partner's bit is the other one. -/
structure Mask (m : BitVec 32) (n : ℕ) : Prop where
  bit_eq : ∀ l : Fin 128, IntOp.cmpi .ne (BitVec.ofNat 32 l.val &&& m) 0#32 = BitVec.ofBool (bit n l)
  partner_eq : ∀ l : Fin 128, (BitVec.ofNat 32 l.val ^^^ m).toNat = (partner n l).val
  flip : ∀ l : Fin 128, bit n (partner n l) = !bit n l

theorem mask16 : Mask 16#32 16 := ⟨by decide +kernel, by decide +kernel, by decide +kernel⟩
theorem mask8 : Mask 8#32 8 := ⟨by decide +kernel, by decide +kernel, by decide +kernel⟩
theorem mask4 : Mask 4#32 4 := ⟨by decide +kernel, by decide +kernel, by decide +kernel⟩
theorem mask2 : Mask 2#32 2 := ⟨by decide +kernel, by decide +kernel, by decide +kernel⟩
theorem mask1 : Mask 1#32 1 := ⟨by decide +kernel, by decide +kernel, by decide +kernel⟩

/-- An exchange at an element: the lane's own block, at the lane and at its partner. -/
theorem merge_apply {m : BitVec 32} {n : ℕ} (hm : Mask m n) (a b : FVec Ideal S16x128 .bf16) (i : Fin 16) (l : Fin 128) :
    merge m a b (ix2 i l)
      = max ((if bit n l then b else a) (ix2 i l)) ((if bit n l then b else a) (ix2 i (partner n l))) := by
  have hb : ∀ l, hasBit m (ix2 i l) = BitVec.ofBool (bit n l) := fun l => by
    rw [← hm.bit_eq l, ← lane_apply i l]; rfl
  have hg := gat_apply (select (hasBit m) a b) (xori lane (broadcast S16x128 m)) i l (partner n l) (by
    rw [← hm.partner_eq l, ← lane_apply i l]; rfl)
  show max (Scalar.select (hasBit m (ix2 i l)) (b (ix2 i l)) (a (ix2 i l))) (gat _ _ (ix2 i l)) = _
  rw [hg, hb]
  show max _ (Scalar.select (hasBit m (ix2 i (partner n l))) (a _) (b _)) = _
  rw [hb, hm.flip]
  cases bit n l <;> rfl

/-- A spread at an element: the maximum with the partner lane. -/
theorem spread_apply {m : BitVec 32} {n : ℕ} (hm : Mask m n) (a : FVec Ideal S16x128 .bf16) (i : Fin 16) (l : Fin 128) :
    spread m a (ix2 i l) = max (a (ix2 i l)) (a (ix2 i (partner n l))) := by
  have hg := gat_apply a (xori lane (broadcast S16x128 m)) i l (partner n l) (by
    rw [← hm.partner_eq l, ← lane_apply i l]; rfl)
  show max (a (ix2 i l)) (gat _ _ (ix2 i l)) = _
  rw [hg]

/-- The lane block whose group a lane of the packed maxima belongs to. -/
def blockOf (l : Fin 128) : Fin 8 :=
  match bit 16 l, bit 8 l, bit 4 l with
  | false, false, false => 0 | true, false, false => 1 | false, true, false => 2 | true, true, false => 3
  | false, false, true => 4 | true, false, true => 5 | false, true, true => 6 | true, true, true => 7

theorem xor_zero_iff (x y : ℕ) : x ^^^ y = 0 ↔ x = y := by
  refine ⟨fun h => ?_, fun h => by rw [h, Nat.xor_self]⟩
  have e := congrArg (· ^^^ y) h
  simpa [Nat.xor_assoc, Nat.xor_self] using e

/-- Lanes whose numbers differ in bits of `S` only. -/
def same (S : ℕ) (k l : Fin 128) : Prop := (k.val ^^^ l.val) &&& (127 - S) = 0

theorem xor_lt (k l : Fin 128) : k.val ^^^ l.val < 128 := Nat.xor_lt_two_pow (n := 7) k.isLt l.isLt

/-- Adding a bit to the difference. -/
theorem same_step (S S' m : ℕ) (hm : m < 128)
    (h : ∀ x : Fin 128, x.val &&& (127 - S') = 0 ↔ x.val &&& (127 - S) = 0 ∨ (x.val ^^^ m) &&& (127 - S) = 0) (k l : Fin 128) :
    same S' k l ↔ same S k l ∨ same S k (partner m l) := by
  have e : k.val ^^^ (partner m l).val = (k.val ^^^ l.val) ^^^ m := by
    show k.val ^^^ ((l.val ^^^ m) % 128) = _
    rw [Nat.mod_eq_of_lt (Nat.xor_lt_two_pow (n := 7) l.isLt hm), Nat.xor_assoc]
  unfold same
  rw [e]
  exact h ⟨k.val ^^^ l.val, xor_lt k l⟩

theorem same0 (k l : Fin 128) : same 0 k l ↔ k = l := by
  have h : ∀ x : Fin 128, x.val &&& (127 - 0) = 0 ↔ x.val = 0 := by decide +kernel
  exact (h ⟨k.val ^^^ l.val, xor_lt k l⟩).trans ((xor_zero_iff _ _).trans Fin.ext_iff.symm)

theorem same16 (k l : Fin 128) : same 16 k l ↔ same 0 k l ∨ same 0 k (partner 16 l) :=
  same_step 0 16 16 (by decide) (by decide +kernel) k l
theorem same24 (k l : Fin 128) : same 24 k l ↔ same 16 k l ∨ same 16 k (partner 8 l) :=
  same_step 16 24 8 (by decide) (by decide +kernel) k l
theorem same28 (k l : Fin 128) : same 28 k l ↔ same 24 k l ∨ same 24 k (partner 4 l) :=
  same_step 24 28 4 (by decide) (by decide +kernel) k l
theorem same30 (k l : Fin 128) : same 30 k l ↔ same 28 k l ∨ same 28 k (partner 2 l) :=
  same_step 28 30 2 (by decide) (by decide +kernel) k l
theorem same31 (k l : Fin 128) : same 31 k l ↔ same 30 k l ∨ same 30 k (partner 1 l) :=
  same_step 30 31 1 (by decide) (by decide +kernel) k l

/-- Lanes that differ in their five low bits are the lanes of one group. -/
theorem same31_iff (k l : Fin 128) : same 31 k l ↔ k.val / 32 = l.val / 32 := by
  have h : ∀ x : Fin 128, x.val &&& (127 - 31) = 0 ↔ x.val >>> 5 = 0 := by decide +kernel
  refine (h ⟨k.val ^^^ l.val, xor_lt k l⟩).trans ?_
  show (k.val ^^^ l.val) >>> 5 = 0 ↔ _
  rw [Nat.shiftRight_xor_distrib, xor_zero_iff, Nat.shiftRight_eq_div_pow, Nat.shiftRight_eq_div_pow]

/-- One exchange, bounded: if each operand's bound is that of its lanes `S` away, the result's is that of the lanes
    `S'` away in the operand its bit names. -/
theorem merge_le {m : BitVec 32} {n : ℕ} (hm : Mask m n) (S S' : ℕ)
    (hs : ∀ k l : Fin 128, same S' k l ↔ same S k l ∨ same S k (partner n l))
    (a b : FVec Ideal S16x128 .bf16) (i : Fin 16) (y : EReal) (fa fb : Fin 128 → Fin 128 → EReal)
    (ha : ∀ l, a (ix2 i l) ≤ y ↔ ∀ k, same S k l → fa l k ≤ y) (hb : ∀ l, b (ix2 i l) ≤ y ↔ ∀ k, same S k l → fb l k ≤ y)
    (hfa : ∀ l, fa (partner n l) = fa l) (hfb : ∀ l, fb (partner n l) = fb l) (l : Fin 128) :
    merge m a b (ix2 i l) ≤ y ↔ ∀ k, same S' k l → (if bit n l then fb l else fa l) k ≤ y := by
  rw [merge_apply hm, max_le_iff]
  cases bit n l
  · simp only [Bool.false_eq_true, if_false, ha, hfa, hs, or_imp, forall_and]
  · simp only [if_true, hb, hfb, hs, or_imp, forall_and]

/-- A spread, bounded. -/
theorem spread_le {m : BitVec 32} {n : ℕ} (hm : Mask m n) (S S' : ℕ)
    (hs : ∀ k l : Fin 128, same S' k l ↔ same S k l ∨ same S k (partner n l))
    (a : FVec Ideal S16x128 .bf16) (i : Fin 16) (y : EReal) (fa : Fin 128 → Fin 128 → EReal)
    (ha : ∀ l, a (ix2 i l) ≤ y ↔ ∀ k, same S k l → fa l k ≤ y)
    (hfa : ∀ l, fa (partner n l) = fa l) (l : Fin 128) :
    spread m a (ix2 i l) ≤ y ↔ ∀ k, same S' k l → fa l k ≤ y := by
  rw [spread_apply hm, max_le_iff]
  simp only [ha, hfa, hs, or_imp, forall_and]

theorem bit16_8 : ∀ l, bit 16 (partner 8 l) = bit 16 l := by decide +kernel
theorem bit16_4 : ∀ l, bit 16 (partner 4 l) = bit 16 l := by decide +kernel
theorem bit8_4 : ∀ l, bit 8 (partner 4 l) = bit 8 l := by decide +kernel
theorem blockOf_2 : ∀ l, blockOf (partner 2 l) = blockOf l := by decide +kernel
theorem blockOf_1 : ∀ l, blockOf (partner 1 l) = blockOf l := by decide +kernel

/-- The packed maximum at a lane is bounded exactly when the absolute values of its group are. -/
theorem groupMax_le (x : Fin 8 → FVec Ideal S16x128 .bf16) (i : Fin 16) (y : EReal) (l : Fin 128) :
    groupMax x (ix2 i l) ≤ y ↔ ∀ k : Fin 128, k.val / 32 = l.val / 32 → absf (x (blockOf l)) (ix2 i k) ≤ y := by
  let f : Fin 8 → Fin 128 → EReal := fun j k => absf (x j) (ix2 i k)
  have h0 : ∀ j l, absf (x j) (ix2 i l) ≤ y ↔ ∀ k, same 0 k l → (fun _ => f j) l k ≤ y := fun j l => by
    simp only [same0, forall_eq]; rfl
  have h1 : ∀ p q l, _ ↔ ∀ k, same 16 k l → (fun l => if bit 16 l then f q else f p) l k ≤ y := fun p q l =>
    merge_le mask16 0 16 same16 (absf (x p)) (absf (x q)) i y (fun _ => f p) (fun _ => f q) (h0 p) (h0 q) (fun _ => rfl) (fun _ => rfl) l
  have h2 : ∀ p q r s l, _ ↔ ∀ k, same 24 k l →
      (fun l => if bit 8 l then (if bit 16 l then f s else f r) else (if bit 16 l then f q else f p)) l k ≤ y := fun p q r s l =>
    merge_le mask8 16 24 same24 (merge 16#32 (absf (x p)) (absf (x q))) (merge 16#32 (absf (x r)) (absf (x s))) i y
      _ _ (h1 p q) (h1 r s) (fun l => by simp only [bit16_8]) (fun l => by simp only [bit16_8]) l
  have h3 := merge_le mask4 24 28 same28 _ _ i y _ _ (h2 0 1 2 3) (h2 4 5 6 7)
    (fun l => by simp only [bit16_4, bit8_4]) (fun l => by simp only [bit16_4, bit8_4])
  have h3' : ∀ l, _ ↔ ∀ k, same 28 k l → (fun l => f (blockOf l)) l k ≤ y := fun l => (h3 l).trans (by
    refine forall_congr' fun k => imp_congr_right fun _ => ?_
    show _ ↔ f (blockOf l) k ≤ y
    unfold blockOf
    generalize bit 16 l = p, bit 8 l = q, bit 4 l = r
    cases p <;> cases q <;> cases r <;> exact Iff.rfl)
  have h4 := spread_le mask2 28 30 same30 _ i y _ h3' (fun l => by simp only [blockOf_2])
  have h5 := spread_le mask1 30 31 same31 _ i y _ h4 (fun l => by simp only [blockOf_1])
  refine (h5 l).trans ?_
  simp only [same31_iff]; rfl

end Cert.Quant

end
-- ==== Proof.QuantPoint.lean ====
/- The combinators of the quantization loop, element by element, on the extended reals. -/
module

public import proofs.«01_k».proof.Proof.GroupMax
public import proofs.«01_k».proof.Proof.Exponent
public import Idealize.ShloMosaic.Lib.Pipeline.ReadBack

@[expose] public section

noncomputable section

namespace Cert.Quant

open Idealize.ShloMosaic Idealize.ShloMosaic.TcCoe Idealize.ShloMosaic.ValueIdx
open Cert.KernelIdeal Cert.KernelIdeal.Gen

/-- Every index of a matrix is the pair of its coordinates. -/
theorem eta2 {n m : ℕ} (x : Shape.Idx ⟨2, ![n, m]⟩) : x = ix2 (x 0) (x 1) := by
  funext a
  match a with
  | ⟨0, _⟩ => rfl
  | ⟨1, _⟩ => rfl

/-- A masked block, at an element. -/
theorem masked_apply (x kp : FVec Ideal S16x128 .bf16) (i : S16x128.Idx) : masked x kp i = x i * kp i := by
  unfold masked
  rw [shapeCast_self]
  rfl

/-- The packed lane each of the 32 groups' scale is taken from. -/
def unp (c : Fin 32) : Fin 128 :=
  ⟨32 * (c.val % 4) + 16 * (c.val / 4 % 2) + 8 * (c.val / 8 % 2) + 4 * (c.val / 16 % 2), by omega⟩

theorem unp_group : ∀ c : Fin 32, 4 * (blockOf (unp c)).val + (unp c).val / 32 = c.val := by decide +kernel

/-- The lane expression of the scales' columns, on one lane number. -/
def unpWord (l : BitVec 32) : BitVec 32 :=
  have j : BitVec 32 := IntOp.shrsi .vector l 2#32 &&& 7#32
  32#32 * (l &&& 3#32) + 16#32 * (j &&& 1#32) + 8#32 * (IntOp.shrsi .vector j 1#32 &&& 1#32) + 4#32 * (IntOp.shrsi .vector j 2#32 &&& 1#32)

theorem unpWord_toNat : ∀ c : Fin 32, (unpWord (BitVec.ofNat 32 c.val)).toNat = (unp c).val := by decide +kernel

theorem unpackLane_apply (i : Fin 16) (c : Fin 32) : (unpackLane (ix2 i ⟨c.val, by omega⟩)).toNat = (unp c).val := by
  rw [← unpWord_toNat c, ← lane_apply i ⟨c.val, by omega⟩]
  rfl

/-- A row of scales, column by column, is the packed scales of its groups. -/
theorem scaleRows_apply (s : FVec Ideal S8x128 .f32) (i : Fin 8) (c : Fin 32) : scaleRows s (ix2 i c) = s (ix2 i (unp c)) := by
  have hu := unpackLane_apply ⟨i.val, by omega⟩ c
  have hs : extractStridedSlice S8x128 ![0, 0] unpackLane slices_S16x128_o0_0_S8x128 (ix2 i ⟨c.val, by omega⟩)
      = unpackLane (ix2 ⟨i.val, by omega⟩ ⟨c.val, by omega⟩) :=
    extractStridedSlice_apply _ _ _ _ _ (fun a => by match a with | ⟨0, _⟩ => simp | ⟨1, _⟩ => simp)
  have hw : (wrap8 (ix2 i ⟨c.val, by omega⟩)).toNat = (unp c).val := by
    unfold wrap8
    rw [shapeCast_shapeCast, ← hu, ← hs]
    exact congrArg BitVec.toNat (wrap_small _ (by rw [hs, hu]; exact (unp c).isLt))
  unfold scaleRows
  rw [extractStridedSlice_apply _ _ _ (ix2 i c) (ix2 i (⟨c.val, by omega⟩ : Fin 128)) (fun a => by match a with | ⟨0, _⟩ => simp | ⟨1, _⟩ => simp)]
  refine congrArg s (funext fun a => ?_)
  match a with
  | ⟨0, _⟩ => rfl
  | ⟨1, _⟩ =>
    refine Fin.ext ?_
    show (wrap8 (ix2 i ⟨c.val, by omega⟩)).toNat % 128 = (unp c).val
    rw [hw, Nat.mod_eq_of_lt (unp c).isLt]

theorem scaleRowsLo_apply (s : FVec Ideal S16x128 .f32) (i : Fin 8) (c : Fin 32) :
    scaleRowsLo s (ix2 i c) = s (ix2 ⟨i.val, by omega⟩ (unp c)) := by
  unfold scaleRowsLo
  rw [scaleRows_apply]
  exact extractStridedSlice_apply _ _ _ _ _ (fun a => by match a with | ⟨0, _⟩ => simp | ⟨1, _⟩ => simp)

theorem scaleRowsHi_apply (s : FVec Ideal S16x128 .f32) (i : Fin 8) (c : Fin 32) :
    scaleRowsHi s (ix2 i c) = s (ix2 ⟨8 + i.val, by omega⟩ (unp c)) := by
  unfold scaleRowsHi
  rw [scaleRows_apply]
  exact extractStridedSlice_apply _ _ _ _ _ (fun a => by match a with | ⟨0, _⟩ => simp | ⟨1, _⟩ => simp)

/-- The three words that spell block `j`'s place among the packed lanes. -/
structure Place (a b c : BitVec 32) (j : Fin 8) : Prop where
  word : ∀ l : Fin 128, (32#32 * IntOp.shrsi .vector (BitVec.ofNat 32 l.val) 5#32 + a + b + c).toNat < 128
  group : ∀ l : Fin 128, ∀ s : Fin 128, (32#32 * IntOp.shrsi .vector (BitVec.ofNat 32 l.val) 5#32 + a + b + c).toNat = s.val →
    4 * (blockOf s).val + s.val / 32 = (128 * j.val + l.val) / 32

theorem place_of (a b c : BitVec 32) (j : Fin 8)
    (h : ∀ l : Fin 128, (32#32 * IntOp.shrsi .vector (BitVec.ofNat 32 l.val) 5#32 + a + b + c).toNat < 128)
    (h' : ∀ l : Fin 128, 4 * (blockOf ⟨(32#32 * IntOp.shrsi .vector (BitVec.ofNat 32 l.val) 5#32 + a + b + c).toNat % 128, Nat.mod_lt _ (by decide)⟩).val
      + (32#32 * IntOp.shrsi .vector (BitVec.ofNat 32 l.val) 5#32 + a + b + c).toNat / 32 = (128 * j.val + l.val) / 32) : Place a b c j :=
  ⟨h, fun l s hs => by
    have e := h' l
    have : (⟨(32#32 * IntOp.shrsi .vector (BitVec.ofNat 32 l.val) 5#32 + a + b + c).toNat % 128, Nat.mod_lt _ (by decide)⟩ : Fin 128) = s :=
      Fin.ext (by show _ % 128 = s.val; rw [hs, Nat.mod_eq_of_lt s.isLt])
    rw [this, hs] at e
    exact e⟩

theorem place0 : Place 0#32 0#32 0#32 0 := place_of _ _ _ _ (by decide +kernel) (by decide +kernel)
theorem place1 : Place 16#32 0#32 0#32 1 := place_of _ _ _ _ (by decide +kernel) (by decide +kernel)
theorem place2 : Place 0#32 8#32 0#32 2 := place_of _ _ _ _ (by decide +kernel) (by decide +kernel)
theorem place3 : Place 16#32 8#32 0#32 3 := place_of _ _ _ _ (by decide +kernel) (by decide +kernel)
theorem place4 : Place 0#32 0#32 4#32 4 := place_of _ _ _ _ (by decide +kernel) (by decide +kernel)
theorem place5 : Place 16#32 0#32 4#32 5 := place_of _ _ _ _ (by decide +kernel) (by decide +kernel)
theorem place6 : Place 0#32 8#32 4#32 6 := place_of _ _ _ _ (by decide +kernel) (by decide +kernel)
theorem place7 : Place 16#32 8#32 4#32 7 := place_of _ _ _ _ (by decide +kernel) (by decide +kernel)

/-- Packed values gathered to a block are the values of the lanes' groups. -/
theorem gat_blockLane {a b c : BitVec 32} {j : Fin 8} (hp : Place a b c j) (v : FVec Ideal S16x128 .bf16) (i : Fin 16)
    (f : Fin 32 → EReal) (hv : ∀ s : Fin 128, v (ix2 i s) = f ⟨4 * (blockOf s).val + s.val / 32, by omega⟩) (l : Fin 128) :
    gat v (blockLane a b c) (ix2 i l) = f ⟨(128 * j.val + l.val) / 32, by omega⟩ := by
  have hb : blockLane a b c (ix2 i l) = 32#32 * IntOp.shrsi .vector (BitVec.ofNat 32 l.val) 5#32 + a + b + c := by
    rw [← lane_apply i l]; rfl
  have hlt := hp.word l
  rw [gat_apply v _ i l ⟨_, hlt⟩ (congrArg BitVec.toNat hb), hv]
  exact congrArg f (Fin.ext (hp.group l ⟨_, hlt⟩ rfl))

/-- Two halves stacked, at an element. -/
theorem stack_apply (u v : FVec Ideal S16x128 .bf16) (l : Fin 128) (f : Fin 32 → EReal)
    (hu : ∀ i : Fin 16, u (ix2 i l) = f ⟨i.val, by omega⟩) (hv : ∀ i : Fin 16, v (ix2 i l) = f ⟨16 + i.val, by omega⟩) (i : Fin 32) :
    stack u v (ix2 i l) = f i := by
  unfold stack
  by_cases h : i.val < 16
  · rw [concatenate_pair_apply_left (t := S32x128) 0 u v concatenates_S16x128_S16x128_S32x128_d0 (ix2 i l) rfl (ix2 (⟨i.val, h⟩ : Fin 16) l)
      (fun a => by match a with | ⟨0, _⟩ => rfl | ⟨1, _⟩ => rfl)]
    exact hu ⟨i.val, h⟩
  · rw [concatenate_pair_apply_right (t := S32x128) 0 u v concatenates_S16x128_S16x128_S32x128_d0 (ix2 i l) rfl rfl (ix2 (⟨i.val - 16, by omega⟩ : Fin 16) l)
      (fun a ha => by match a with | ⟨0, _⟩ => exact absurd rfl ha | ⟨1, _⟩ => rfl) (by show i.val - 16 + 16 = i.val; omega)]
    rw [hv]; exact congrArg f (Fin.ext (by show 16 + (i.val - 16) = i.val; omega))

/-- The largest code and the smallest. -/
def top : EReal := Ideal.ofBits .f32 0x43E00000#32
def bottom : EReal := Ideal.ofBits .f32 0xC3E00000#32

/-- A block of codes, at an element. -/
theorem codes_apply (i0 i1 : FVec Ideal S16x128 .bf16) (src : IVec S16x128 32) (x : FVec Ideal S32x128 .bf16)
    (kp : FVec Ideal S16x128 .bf16) (i : S32x128.Idx) :
    codes i0 i1 src x kp i = min top (max bottom (x i * stack kp kp i * stack (gat i0 src) (gat i1 src) i)) := by
  unfold codes
  rw [shapeCast_self]
  rfl

/-- A block of rows for the product, at an element. -/
theorem mixed_apply (i0 i1 : FVec Ideal S16x128 .bf16) (s0 s1 : FVec Ideal S16x128 .f32) (src : IVec S16x128 32)
    (x : FVec Ideal S32x128 .bf16) (kp : FVec Ideal S16x128 .bf16) (i : S32x128.Idx) :
    mixed i0 i1 s0 s1 src x kp i = codes i0 i1 src x kp i
        * stack (gat (truncf .bf16 s0 bitsLt_bf16_f32) src) (gat (truncf .bf16 s1 bitsLt_bf16_f32) src) i
      + x i * (Ideal.ofBits .bf16 0x3F80#16 - stack kp kp i) := by
  unfold mixed
  rw [shapeCast_self, shapeCast_self]
  rfl

end Cert.Quant

end
-- ==== Proof.QuantTrip.lean ====
/- What one trip of the quantization loop stores: the rows of scales, the blocks of codes, and the blocks the product
   reads, as the combinators of `QuantVec` over the loads. -/
module

public import proofs.«01_k».proof.Proof.QuantVec

@[expose] public section

noncomputable section

namespace Cert.Quant

open Idealize.ShloMosaic Idealize.ShloMosaic.TcCoe
open Cert.KernelIdeal Cert.KernelIdeal.Gen

variable {F : FTy → Type} [FloatOps F]

/-- The eight masked lane blocks of the trip's first sixteen rows. -/
def halfLo (arg2 : Memref sig .tc .vmem S512x1024 .bf16) (arg11 : Memref sig .tc .vmem S16x1024 .bf16)
    (A : BufTy.Contents (Elt F) arg2.view.ty) (B : BufTy.Contents (Elt F) arg11.view.ty) (k : Fin k0_t2_loop.trips) : Fin 8 → FVec F S16x128 .bf16 :=
  ![masked (arg2.view.readAt (Elt F) (Rect.unit (s := S512x1024) (k0_off66 k 0#32) S16x128.size (k0_off66_inb k 0)).toLoadRect A)
      (arg11.view.readAt (Elt F) (Rect.unit (s := S16x1024) ![0, 0] S16x128.size inb_S16x1024_S16x128_0_0).toLoadRect B),
    masked (arg2.view.readAt (Elt F) (Rect.unit (s := S512x1024) (k0_off67 k 0#32) S16x128.size (k0_off67_inb k 0)).toLoadRect A)
      (arg11.view.readAt (Elt F) (Rect.unit (s := S16x1024) ![0, 128] S16x128.size inb_S16x1024_S16x128_0_128).toLoadRect B),
    masked (arg2.view.readAt (Elt F) (Rect.unit (s := S512x1024) (k0_off68 k 0#32) S16x128.size (k0_off68_inb k 0)).toLoadRect A)
      (arg11.view.readAt (Elt F) (Rect.unit (s := S16x1024) ![0, 256] S16x128.size inb_S16x1024_S16x128_0_256).toLoadRect B),
    masked (arg2.view.readAt (Elt F) (Rect.unit (s := S512x1024) (k0_off69 k 0#32) S16x128.size (k0_off69_inb k 0)).toLoadRect A)
      (arg11.view.readAt (Elt F) (Rect.unit (s := S16x1024) ![0, 384] S16x128.size inb_S16x1024_S16x128_0_384).toLoadRect B),
    masked (arg2.view.readAt (Elt F) (Rect.unit (s := S512x1024) (k0_off70 k 0#32) S16x128.size (k0_off70_inb k 0)).toLoadRect A)
      (arg11.view.readAt (Elt F) (Rect.unit (s := S16x1024) ![0, 512] S16x128.size inb_S16x1024_S16x128_0_512).toLoadRect B),
    masked (arg2.view.readAt (Elt F) (Rect.unit (s := S512x1024) (k0_off71 k 0#32) S16x128.size (k0_off71_inb k 0)).toLoadRect A)
      (arg11.view.readAt (Elt F) (Rect.unit (s := S16x1024) ![0, 640] S16x128.size inb_S16x1024_S16x128_0_640).toLoadRect B),
    masked (arg2.view.readAt (Elt F) (Rect.unit (s := S512x1024) (k0_off72 k 0#32) S16x128.size (k0_off72_inb k 0)).toLoadRect A)
      (arg11.view.readAt (Elt F) (Rect.unit (s := S16x1024) ![0, 768] S16x128.size inb_S16x1024_S16x128_0_768).toLoadRect B),
    masked (arg2.view.readAt (Elt F) (Rect.unit (s := S512x1024) (k0_off73 k 0#32) S16x128.size (k0_off73_inb k 0)).toLoadRect A)
      (arg11.view.readAt (Elt F) (Rect.unit (s := S16x1024) ![0, 896] S16x128.size inb_S16x1024_S16x128_0_896).toLoadRect B)]

/-- The eight masked lane blocks of the trip's last sixteen rows. -/
def halfHi (arg2 : Memref sig .tc .vmem S512x1024 .bf16) (arg11 : Memref sig .tc .vmem S16x1024 .bf16)
    (A : BufTy.Contents (Elt F) arg2.view.ty) (B : BufTy.Contents (Elt F) arg11.view.ty) (k : Fin k0_t2_loop.trips) : Fin 8 → FVec F S16x128 .bf16 :=
  ![masked (arg2.view.readAt (Elt F) (Rect.unit (s := S512x1024) (k0_off66 k 16#32) S16x128.size (k0_off66_inb k 1)).toLoadRect A)
      (arg11.view.readAt (Elt F) (Rect.unit (s := S16x1024) ![0, 0] S16x128.size inb_S16x1024_S16x128_0_0).toLoadRect B),
    masked (arg2.view.readAt (Elt F) (Rect.unit (s := S512x1024) (k0_off67 k 16#32) S16x128.size (k0_off67_inb k 1)).toLoadRect A)
      (arg11.view.readAt (Elt F) (Rect.unit (s := S16x1024) ![0, 128] S16x128.size inb_S16x1024_S16x128_0_128).toLoadRect B),
    masked (arg2.view.readAt (Elt F) (Rect.unit (s := S512x1024) (k0_off68 k 16#32) S16x128.size (k0_off68_inb k 1)).toLoadRect A)
      (arg11.view.readAt (Elt F) (Rect.unit (s := S16x1024) ![0, 256] S16x128.size inb_S16x1024_S16x128_0_256).toLoadRect B),
    masked (arg2.view.readAt (Elt F) (Rect.unit (s := S512x1024) (k0_off69 k 16#32) S16x128.size (k0_off69_inb k 1)).toLoadRect A)
      (arg11.view.readAt (Elt F) (Rect.unit (s := S16x1024) ![0, 384] S16x128.size inb_S16x1024_S16x128_0_384).toLoadRect B),
    masked (arg2.view.readAt (Elt F) (Rect.unit (s := S512x1024) (k0_off70 k 16#32) S16x128.size (k0_off70_inb k 1)).toLoadRect A)
      (arg11.view.readAt (Elt F) (Rect.unit (s := S16x1024) ![0, 512] S16x128.size inb_S16x1024_S16x128_0_512).toLoadRect B),
    masked (arg2.view.readAt (Elt F) (Rect.unit (s := S512x1024) (k0_off71 k 16#32) S16x128.size (k0_off71_inb k 1)).toLoadRect A)
      (arg11.view.readAt (Elt F) (Rect.unit (s := S16x1024) ![0, 640] S16x128.size inb_S16x1024_S16x128_0_640).toLoadRect B),
    masked (arg2.view.readAt (Elt F) (Rect.unit (s := S512x1024) (k0_off72 k 16#32) S16x128.size (k0_off72_inb k 1)).toLoadRect A)
      (arg11.view.readAt (Elt F) (Rect.unit (s := S16x1024) ![0, 768] S16x128.size inb_S16x1024_S16x128_0_768).toLoadRect B),
    masked (arg2.view.readAt (Elt F) (Rect.unit (s := S512x1024) (k0_off73 k 16#32) S16x128.size (k0_off73_inb k 1)).toLoadRect A)
      (arg11.view.readAt (Elt F) (Rect.unit (s := S16x1024) ![0, 896] S16x128.size inb_S16x1024_S16x128_0_896).toLoadRect B)]

/-- The group maxima of the first sixteen rows over the largest code. -/
def ratioLo (arg2 : Memref sig .tc .vmem S512x1024 .bf16) (arg11 : Memref sig .tc .vmem S16x1024 .bf16)
    (A : BufTy.Contents (Elt F) arg2.view.ty) (B : BufTy.Contents (Elt F) arg11.view.ty) (k : Fin k0_t2_loop.trips) : FVec F S16x128 .f32 :=
  ratio (groupMax (halfLo arg2 arg11 A B k))

/-- The group maxima of the last sixteen rows over the largest code. -/
def ratioHi (arg2 : Memref sig .tc .vmem S512x1024 .bf16) (arg11 : Memref sig .tc .vmem S16x1024 .bf16)
    (A : BufTy.Contents (Elt F) arg2.view.ty) (B : BufTy.Contents (Elt F) arg11.view.ty) (k : Fin k0_t2_loop.trips) : FVec F S16x128 .f32 :=
  ratio (groupMax (halfHi arg2 arg11 A B k))

/-- The trip stores the scales of its rows, eight at a time. -/
theorem trip_scales (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole)
  (A : BufTy.Contents (Elt F) arg2.view.ty) (B : BufTy.Contents (Elt F) arg11.view.ty) (k : Fin k0_t2_loop.trips) :
  (trip_k0_t2 (F := F) 𝒱 c bd i arg1 harg1 arg2 harg2 arg3 harg3 arg4 harg4 arg5 harg5 arg6 harg6 arg7 harg7 arg8 harg8 arg9 harg9 arg10 harg10 arg11 harg11 arg12 harg12 A B k).2.1 =
    [⟨Rect.unit (k0_off74 k 16#32 8#32) S8x32.size (k0_off74_inb k 1 1), scaleRowsHi (scales (ratioHi arg2 arg11 A B k))⟩,
      ⟨Rect.unit (k0_off74 k 16#32 0#32) S8x32.size (k0_off74_inb k 1 0), scaleRowsLo (scales (ratioHi arg2 arg11 A B k))⟩,
      ⟨Rect.unit (k0_off74 k 0#32 8#32) S8x32.size (k0_off74_inb k 0 1), scaleRowsHi (scales (ratioLo arg2 arg11 A B k))⟩,
      ⟨Rect.unit (k0_off74 k 0#32 0#32) S8x32.size (k0_off74_inb k 0 0), scaleRowsLo (scales (ratioLo arg2 arg11 A B k))⟩] := by
  unfold trip_k0_t2
  rfl

/-- The trip stores the codes of its rows, a lane block at a time. -/
theorem trip_codes (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole)
  (A : BufTy.Contents (Elt F) arg2.view.ty) (B : BufTy.Contents (Elt F) arg11.view.ty) (k : Fin k0_t2_loop.trips) :
  (trip_k0_t2 (F := F) 𝒱 c bd i arg1 harg1 arg2 harg2 arg3 harg3 arg4 harg4 arg5 harg5 arg6 harg6 arg7 harg7 arg8 harg8 arg9 harg9 arg10 harg10 arg11 harg11 arg12 harg12 A B k).1 =
    [⟨Rect.unit (k0_off82 k) S32x128.size (k0_off82_inb k),
      codes (inverses (ratioLo arg2 arg11 A B k)) (inverses (ratioHi arg2 arg11 A B k)) (blockLane 16#32 8#32 4#32)
        (arg2.view.readAt (Elt F) (Rect.unit (s := S512x1024) (k0_off82 k) S32x128.size (k0_off82_inb k)).toLoadRect A)
        (arg11.view.readAt (Elt F) (Rect.unit (s := S16x1024) ![0, 896] S16x128.size inb_S16x1024_S16x128_0_896).toLoadRect B)⟩,
    ⟨Rect.unit (k0_off81 k) S32x128.size (k0_off81_inb k),
      codes (inverses (ratioLo arg2 arg11 A B k)) (inverses (ratioHi arg2 arg11 A B k)) (blockLane 0#32 8#32 4#32)
        (arg2.view.readAt (Elt F) (Rect.unit (s := S512x1024) (k0_off81 k) S32x128.size (k0_off81_inb k)).toLoadRect A)
        (arg11.view.readAt (Elt F) (Rect.unit (s := S16x1024) ![0, 768] S16x128.size inb_S16x1024_S16x128_0_768).toLoadRect B)⟩,
    ⟨Rect.unit (k0_off80 k) S32x128.size (k0_off80_inb k),
      codes (inverses (ratioLo arg2 arg11 A B k)) (inverses (ratioHi arg2 arg11 A B k)) (blockLane 16#32 0#32 4#32)
        (arg2.view.readAt (Elt F) (Rect.unit (s := S512x1024) (k0_off80 k) S32x128.size (k0_off80_inb k)).toLoadRect A)
        (arg11.view.readAt (Elt F) (Rect.unit (s := S16x1024) ![0, 640] S16x128.size inb_S16x1024_S16x128_0_640).toLoadRect B)⟩,
    ⟨Rect.unit (k0_off79 k) S32x128.size (k0_off79_inb k),
      codes (inverses (ratioLo arg2 arg11 A B k)) (inverses (ratioHi arg2 arg11 A B k)) (blockLane 0#32 0#32 4#32)
        (arg2.view.readAt (Elt F) (Rect.unit (s := S512x1024) (k0_off79 k) S32x128.size (k0_off79_inb k)).toLoadRect A)
        (arg11.view.readAt (Elt F) (Rect.unit (s := S16x1024) ![0, 512] S16x128.size inb_S16x1024_S16x128_0_512).toLoadRect B)⟩,
    ⟨Rect.unit (k0_off78 k) S32x128.size (k0_off78_inb k),
      codes (inverses (ratioLo arg2 arg11 A B k)) (inverses (ratioHi arg2 arg11 A B k)) (blockLane 16#32 8#32 0#32)
        (arg2.view.readAt (Elt F) (Rect.unit (s := S512x1024) (k0_off78 k) S32x128.size (k0_off78_inb k)).toLoadRect A)
        (arg11.view.readAt (Elt F) (Rect.unit (s := S16x1024) ![0, 384] S16x128.size inb_S16x1024_S16x128_0_384).toLoadRect B)⟩,
    ⟨Rect.unit (k0_off77 k) S32x128.size (k0_off77_inb k),
      codes (inverses (ratioLo arg2 arg11 A B k)) (inverses (ratioHi arg2 arg11 A B k)) (blockLane 0#32 8#32 0#32)
        (arg2.view.readAt (Elt F) (Rect.unit (s := S512x1024) (k0_off77 k) S32x128.size (k0_off77_inb k)).toLoadRect A)
        (arg11.view.readAt (Elt F) (Rect.unit (s := S16x1024) ![0, 256] S16x128.size inb_S16x1024_S16x128_0_256).toLoadRect B)⟩,
    ⟨Rect.unit (k0_off76 k) S32x128.size (k0_off76_inb k),
      codes (inverses (ratioLo arg2 arg11 A B k)) (inverses (ratioHi arg2 arg11 A B k)) (blockLane 16#32 0#32 0#32)
        (arg2.view.readAt (Elt F) (Rect.unit (s := S512x1024) (k0_off76 k) S32x128.size (k0_off76_inb k)).toLoadRect A)
        (arg11.view.readAt (Elt F) (Rect.unit (s := S16x1024) ![0, 128] S16x128.size inb_S16x1024_S16x128_0_128).toLoadRect B)⟩,
    ⟨Rect.unit (k0_off75 k) S32x128.size (k0_off75_inb k),
      codes (inverses (ratioLo arg2 arg11 A B k)) (inverses (ratioHi arg2 arg11 A B k)) (blockLane 0#32 0#32 0#32)
        (arg2.view.readAt (Elt F) (Rect.unit (s := S512x1024) (k0_off75 k) S32x128.size (k0_off75_inb k)).toLoadRect A)
        (arg11.view.readAt (Elt F) (Rect.unit (s := S16x1024) ![0, 0] S16x128.size inb_S16x1024_S16x128_0_0).toLoadRect B)⟩] := by
  unfold trip_k0_t2
  rfl

/-- The trip stores the rows the product reads, a lane block at a time. -/
theorem trip_mixed (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole)
  (A : BufTy.Contents (Elt F) arg2.view.ty) (B : BufTy.Contents (Elt F) arg11.view.ty) (k : Fin k0_t2_loop.trips) :
  (trip_k0_t2 (F := F) 𝒱 c bd i arg1 harg1 arg2 harg2 arg3 harg3 arg4 harg4 arg5 harg5 arg6 harg6 arg7 harg7 arg8 harg8 arg9 harg9 arg10 harg10 arg11 harg11 arg12 harg12 A B k).2.2.1 =
    [⟨Rect.unit (k0_off82 k) S32x128.size (k0_off82_inb k),
      mixed (inverses (ratioLo arg2 arg11 A B k)) (inverses (ratioHi arg2 arg11 A B k)) (scales (ratioLo arg2 arg11 A B k)) (scales (ratioHi arg2 arg11 A B k)) (blockLane 16#32 8#32 4#32)
        (arg2.view.readAt (Elt F) (Rect.unit (s := S512x1024) (k0_off82 k) S32x128.size (k0_off82_inb k)).toLoadRect A)
        (arg11.view.readAt (Elt F) (Rect.unit (s := S16x1024) ![0, 896] S16x128.size inb_S16x1024_S16x128_0_896).toLoadRect B)⟩,
    ⟨Rect.unit (k0_off81 k) S32x128.size (k0_off81_inb k),
      mixed (inverses (ratioLo arg2 arg11 A B k)) (inverses (ratioHi arg2 arg11 A B k)) (scales (ratioLo arg2 arg11 A B k)) (scales (ratioHi arg2 arg11 A B k)) (blockLane 0#32 8#32 4#32)
        (arg2.view.readAt (Elt F) (Rect.unit (s := S512x1024) (k0_off81 k) S32x128.size (k0_off81_inb k)).toLoadRect A)
        (arg11.view.readAt (Elt F) (Rect.unit (s := S16x1024) ![0, 768] S16x128.size inb_S16x1024_S16x128_0_768).toLoadRect B)⟩,
    ⟨Rect.unit (k0_off80 k) S32x128.size (k0_off80_inb k),
      mixed (inverses (ratioLo arg2 arg11 A B k)) (inverses (ratioHi arg2 arg11 A B k)) (scales (ratioLo arg2 arg11 A B k)) (scales (ratioHi arg2 arg11 A B k)) (blockLane 16#32 0#32 4#32)
        (arg2.view.readAt (Elt F) (Rect.unit (s := S512x1024) (k0_off80 k) S32x128.size (k0_off80_inb k)).toLoadRect A)
        (arg11.view.readAt (Elt F) (Rect.unit (s := S16x1024) ![0, 640] S16x128.size inb_S16x1024_S16x128_0_640).toLoadRect B)⟩,
    ⟨Rect.unit (k0_off79 k) S32x128.size (k0_off79_inb k),
      mixed (inverses (ratioLo arg2 arg11 A B k)) (inverses (ratioHi arg2 arg11 A B k)) (scales (ratioLo arg2 arg11 A B k)) (scales (ratioHi arg2 arg11 A B k)) (blockLane 0#32 0#32 4#32)
        (arg2.view.readAt (Elt F) (Rect.unit (s := S512x1024) (k0_off79 k) S32x128.size (k0_off79_inb k)).toLoadRect A)
        (arg11.view.readAt (Elt F) (Rect.unit (s := S16x1024) ![0, 512] S16x128.size inb_S16x1024_S16x128_0_512).toLoadRect B)⟩,
    ⟨Rect.unit (k0_off78 k) S32x128.size (k0_off78_inb k),
      mixed (inverses (ratioLo arg2 arg11 A B k)) (inverses (ratioHi arg2 arg11 A B k)) (scales (ratioLo arg2 arg11 A B k)) (scales (ratioHi arg2 arg11 A B k)) (blockLane 16#32 8#32 0#32)
        (arg2.view.readAt (Elt F) (Rect.unit (s := S512x1024) (k0_off78 k) S32x128.size (k0_off78_inb k)).toLoadRect A)
        (arg11.view.readAt (Elt F) (Rect.unit (s := S16x1024) ![0, 384] S16x128.size inb_S16x1024_S16x128_0_384).toLoadRect B)⟩,
    ⟨Rect.unit (k0_off77 k) S32x128.size (k0_off77_inb k),
      mixed (inverses (ratioLo arg2 arg11 A B k)) (inverses (ratioHi arg2 arg11 A B k)) (scales (ratioLo arg2 arg11 A B k)) (scales (ratioHi arg2 arg11 A B k)) (blockLane 0#32 8#32 0#32)
        (arg2.view.readAt (Elt F) (Rect.unit (s := S512x1024) (k0_off77 k) S32x128.size (k0_off77_inb k)).toLoadRect A)
        (arg11.view.readAt (Elt F) (Rect.unit (s := S16x1024) ![0, 256] S16x128.size inb_S16x1024_S16x128_0_256).toLoadRect B)⟩,
    ⟨Rect.unit (k0_off76 k) S32x128.size (k0_off76_inb k),
      mixed (inverses (ratioLo arg2 arg11 A B k)) (inverses (ratioHi arg2 arg11 A B k)) (scales (ratioLo arg2 arg11 A B k)) (scales (ratioHi arg2 arg11 A B k)) (blockLane 16#32 0#32 0#32)
        (arg2.view.readAt (Elt F) (Rect.unit (s := S512x1024) (k0_off76 k) S32x128.size (k0_off76_inb k)).toLoadRect A)
        (arg11.view.readAt (Elt F) (Rect.unit (s := S16x1024) ![0, 128] S16x128.size inb_S16x1024_S16x128_0_128).toLoadRect B)⟩,
    ⟨Rect.unit (k0_off75 k) S32x128.size (k0_off75_inb k),
      mixed (inverses (ratioLo arg2 arg11 A B k)) (inverses (ratioHi arg2 arg11 A B k)) (scales (ratioLo arg2 arg11 A B k)) (scales (ratioHi arg2 arg11 A B k)) (blockLane 0#32 0#32 0#32)
        (arg2.view.readAt (Elt F) (Rect.unit (s := S512x1024) (k0_off75 k) S32x128.size (k0_off75_inb k)).toLoadRect A)
        (arg11.view.readAt (Elt F) (Rect.unit (s := S16x1024) ![0, 0] S16x128.size inb_S16x1024_S16x128_0_0).toLoadRect B)⟩] := by
  unfold trip_k0_t2
  rfl

end Cert.Quant

end
-- ==== Proof.QuantBlock.lean ====
/- What the quantization loop stores over one block of 512 rows: the scales, the codes and the rows the product reads,
   as functions of the block of `x` and of the mask. -/
module

public import proofs.«01_k».proof.Proof.QuantPoint
public import proofs.«01_k».proof.Proof.QuantTrip
public import Idealize.ShloMosaic.Lib.Pipeline.ValueKit.Tiles

@[expose] public section

noncomputable section

namespace Cert.Quant

open Idealize.ShloMosaic Idealize.ShloMosaic.TcCoe Idealize.ShloMosaic.ValueIdx Idealize.SL.Sem
open Cert.KernelIdeal Cert.KernelIdeal.Gen

/-! ## The block's functions -/

/-- The mask's row for a row of the block: the mask repeats every sixteen rows. -/
def rowOf (r : Fin 512) : Fin 16 := ⟨r.val % 16, Nat.mod_lt _ (by decide)⟩

/-- The group of a channel. -/
def groupOf (d : Fin 1024) : Fin 32 := ⟨d.val / 32, by omega⟩

/-- Channel `k` of a group. -/
def chan (g k : Fin 32) : Fin 1024 := ⟨32 * g.val + k.val, by omega⟩

section
variable (X : S512x1024.Idx → EReal) (K : S16x1024.Idx → EReal)

/-- `x` times the mask. -/
def xm (r : Fin 512) (d : Fin 1024) : EReal := X (ix2 r d) * K (ix2 (rowOf r) d)

/-- The largest absolute value of a group. -/
def gmax (r : Fin 512) (g : Fin 32) : EReal := ⨆ k : Fin 32, max (xm X K r (chan g k)) (-(xm X K r (chan g k)))

/-- The group's ratio: its largest absolute value over the largest code. -/
def pr (r : Fin 512) (g : Fin 32) : EReal := gmax X K r g * Ideal.ofBits .f32 0x3B124925#32

/-- The scale of a group. -/
def scaleAt (r : Fin 512) (g : Fin 32) : EReal := scaleOf (pr X K r g)

/-- The code of an element. -/
def codeAt (r : Fin 512) (d : Fin 1024) : EReal :=
  min top (max bottom (X (ix2 r d) * K (ix2 (rowOf r) d) * inverseOf (pr X K r (groupOf d))))

/-- The element the product reads. -/
def mixAt (r : Fin 512) (d : Fin 1024) : EReal :=
  codeAt X K r d * scaleAt X K r (groupOf d) + X (ix2 r d) * (Ideal.ofBits .bf16 0x3F80#16 - K (ix2 (rowOf r) d))

end

/-! ## One trip's loads -/

variable (arg2 : Memref sig .tc .vmem S512x1024 .bf16) (arg11 : Memref sig .tc .vmem S16x1024 .bf16)
  (A : BufTy.Contents (Elt Ideal) arg2.view.ty) (B : BufTy.Contents (Elt Ideal) arg11.view.ty)

theorem read16 (off : Fin 2 → ℕ) (inb) (i : Fin 16) (l : Fin 128) (r : Fin 512) (d : Fin 1024) (h0 : r.val = off 0 + i.val)
    (h1 : d.val = off 1 + l.val) :
    arg2.view.readAt (Elt Ideal) (Rect.unit (s := S512x1024) off S16x128.size inb).toLoadRect A (ix2 i l) = arg2.view.read (Elt Ideal) A (ix2 r d) :=
  View.ld_unit_apply_of (S := S512x1024) _ off S16x128.size inb (ix2 i l) (ix2 r d) (fun a => by match a with | ⟨0, _⟩ => exact h0 | ⟨1, _⟩ => exact h1)

theorem read32 (off : Fin 2 → ℕ) (inb) (i : Fin 32) (l : Fin 128) (r : Fin 512) (d : Fin 1024) (h0 : r.val = off 0 + i.val)
    (h1 : d.val = off 1 + l.val) :
    arg2.view.readAt (Elt Ideal) (Rect.unit (s := S512x1024) off S32x128.size inb).toLoadRect A (ix2 i l) = arg2.view.read (Elt Ideal) A (ix2 r d) :=
  View.ld_unit_apply_of (S := S512x1024) _ off S32x128.size inb (ix2 i l) (ix2 r d) (fun a => by match a with | ⟨0, _⟩ => exact h0 | ⟨1, _⟩ => exact h1)

theorem readMask (o : ℕ) (inb) (i : Fin 16) (l : Fin 128) (d : Fin 1024) (h1 : d.val = o + l.val) :
    arg11.view.readAt (Elt Ideal) (Rect.unit (s := S16x1024) ![0, o] S16x128.size inb).toLoadRect B (ix2 i l)
      = arg11.view.read (Elt Ideal) B (ix2 i d) :=
  View.ld_unit_apply_of (S := S16x1024) _ ![0, o] S16x128.size inb (ix2 i l) (ix2 i d)
    (fun a => by match a with | ⟨0, _⟩ => exact (Nat.zero_add _).symm | ⟨1, _⟩ => exact h1)

/-- A masked load, at an element. -/
theorem half_elem (off : Fin 2 → ℕ) (inb) (o : ℕ) (inb') (i : Fin 16) (l : Fin 128) (r : Fin 512) (d : Fin 1024) (h0 : r.val = off 0 + i.val)
    (h1 : d.val = off 1 + l.val) (h2 : d.val = o + l.val) (h3 : r.val % 16 = i.val) :
    masked (F := Ideal) (arg2.view.readAt (Elt Ideal) (Rect.unit (s := S512x1024) off S16x128.size inb).toLoadRect A)
        (arg11.view.readAt (Elt Ideal) (Rect.unit (s := S16x1024) ![0, o] S16x128.size inb').toLoadRect B) (ix2 i l)
      = xm (arg2.view.read (Elt Ideal) A) (arg11.view.read (Elt Ideal) B) r d := by
  rw [masked_apply, read16 arg2 A off inb i l r d h0 h1, readMask arg11 B o inb' i l d h2, show i = rowOf r from Fin.ext h3.symm]
  rfl

/-! ## Where the trips' loads and stores lie -/

theorem off66_0 : ∀ k : Fin 16, k0_off66 k 0#32 = ![32 * k.val + 0, 0] := by decide +kernel
theorem off66_16 : ∀ k : Fin 16, k0_off66 k 16#32 = ![32 * k.val + 16, 0] := by decide +kernel
theorem off67_0 : ∀ k : Fin 16, k0_off67 k 0#32 = ![32 * k.val + 0, 128] := by decide +kernel
theorem off67_16 : ∀ k : Fin 16, k0_off67 k 16#32 = ![32 * k.val + 16, 128] := by decide +kernel
theorem off68_0 : ∀ k : Fin 16, k0_off68 k 0#32 = ![32 * k.val + 0, 256] := by decide +kernel
theorem off68_16 : ∀ k : Fin 16, k0_off68 k 16#32 = ![32 * k.val + 16, 256] := by decide +kernel
theorem off69_0 : ∀ k : Fin 16, k0_off69 k 0#32 = ![32 * k.val + 0, 384] := by decide +kernel
theorem off69_16 : ∀ k : Fin 16, k0_off69 k 16#32 = ![32 * k.val + 16, 384] := by decide +kernel
theorem off70_0 : ∀ k : Fin 16, k0_off70 k 0#32 = ![32 * k.val + 0, 512] := by decide +kernel
theorem off70_16 : ∀ k : Fin 16, k0_off70 k 16#32 = ![32 * k.val + 16, 512] := by decide +kernel
theorem off71_0 : ∀ k : Fin 16, k0_off71 k 0#32 = ![32 * k.val + 0, 640] := by decide +kernel
theorem off71_16 : ∀ k : Fin 16, k0_off71 k 16#32 = ![32 * k.val + 16, 640] := by decide +kernel
theorem off72_0 : ∀ k : Fin 16, k0_off72 k 0#32 = ![32 * k.val + 0, 768] := by decide +kernel
theorem off72_16 : ∀ k : Fin 16, k0_off72 k 16#32 = ![32 * k.val + 16, 768] := by decide +kernel
theorem off73_0 : ∀ k : Fin 16, k0_off73 k 0#32 = ![32 * k.val + 0, 896] := by decide +kernel
theorem off73_16 : ∀ k : Fin 16, k0_off73 k 16#32 = ![32 * k.val + 16, 896] := by decide +kernel
theorem off74_0_0 : ∀ k : Fin 16, k0_off74 k 0#32 0#32 = ![32 * k.val + 0, 0] := by decide +kernel
theorem off74_0_8 : ∀ k : Fin 16, k0_off74 k 0#32 8#32 = ![32 * k.val + 8, 0] := by decide +kernel
theorem off74_16_0 : ∀ k : Fin 16, k0_off74 k 16#32 0#32 = ![32 * k.val + 16, 0] := by decide +kernel
theorem off74_16_8 : ∀ k : Fin 16, k0_off74 k 16#32 8#32 = ![32 * k.val + 24, 0] := by decide +kernel
theorem off75_eq : ∀ k : Fin k0_t2_loop.trips, k0_off75 k = ![32 * k.val, 0] := by decide +kernel
theorem off76_eq : ∀ k : Fin k0_t2_loop.trips, k0_off76 k = ![32 * k.val, 128] := by decide +kernel
theorem off77_eq : ∀ k : Fin k0_t2_loop.trips, k0_off77 k = ![32 * k.val, 256] := by decide +kernel
theorem off78_eq : ∀ k : Fin k0_t2_loop.trips, k0_off78 k = ![32 * k.val, 384] := by decide +kernel
theorem off79_eq : ∀ k : Fin k0_t2_loop.trips, k0_off79 k = ![32 * k.val, 512] := by decide +kernel
theorem off80_eq : ∀ k : Fin k0_t2_loop.trips, k0_off80 k = ![32 * k.val, 640] := by decide +kernel
theorem off81_eq : ∀ k : Fin k0_t2_loop.trips, k0_off81 k = ![32 * k.val, 768] := by decide +kernel
theorem off82_eq : ∀ k : Fin k0_t2_loop.trips, k0_off82 k = ![32 * k.val, 896] := by decide +kernel

/-- The ratio a packed lane holds is its group's. -/
theorem ratio_of (x : Fin 8 → FVec Ideal S16x128 .bf16) (X : S512x1024.Idx → EReal) (K : S16x1024.Idx → EReal) (i : Fin 16)
    (r : Fin 512) (s : Fin 128) (h : ∀ l : Fin 128, x (blockOf s) (ix2 i l) = xm X K r ⟨128 * (blockOf s).val + l.val, by omega⟩) :
    ratio (groupMax x) (ix2 i s) = pr X K r ⟨4 * (blockOf s).val + s.val / 32, by omega⟩ := by
  have e : groupMax x (ix2 i s) = gmax X K r ⟨4 * (blockOf s).val + s.val / 32, by omega⟩ := by
    refine eq_of_forall_ge_iff fun y => ?_
    rw [groupMax_le, gmax, iSup_le_iff]
    have ha : ∀ l : Fin 128, absf (x (blockOf s)) (ix2 i l) = max (xm X K r ⟨128 * (blockOf s).val + l.val, by omega⟩)
        (-(xm X K r ⟨128 * (blockOf s).val + l.val, by omega⟩)) := fun l => by rw [← h l]; rfl
    constructor
    · intro hy k
      have := hy ⟨32 * (s.val / 32) + k.val, by omega⟩ (by show (32 * (s.val / 32) + k.val) / 32 = _; omega)
      rw [ha] at this
      have hc : chan ⟨4 * (blockOf s).val + s.val / 32, by omega⟩ k
          = ⟨128 * (blockOf s).val + (32 * (s.val / 32) + k.val), by omega⟩ := Fin.ext (by
          show 32 * (4 * (blockOf s).val + s.val / 32) + k.val = 128 * (blockOf s).val + (32 * (s.val / 32) + k.val); omega)
      rw [hc]; exact this
    · intro hy l hl
      have := hy ⟨l.val % 32, Nat.mod_lt _ (by decide)⟩
      have hc : chan ⟨4 * (blockOf s).val + s.val / 32, by omega⟩ ⟨l.val % 32, Nat.mod_lt _ (by decide)⟩
          = ⟨128 * (blockOf s).val + l.val, by omega⟩ := Fin.ext (by show 32 * (4 * (blockOf s).val + s.val / 32) + l.val % 32 = 128 * (blockOf s).val + l.val; omega)
      rw [hc] at this
      rw [ha]; exact this
  show groupMax x (ix2 i s) * _ = _
  rw [e]; rfl

/-- The masked loads of the first sixteen rows. -/
theorem halfLo_apply (k : Fin 16) (j : Fin 8) (i : Fin 16) (l : Fin 128) :
    halfLo arg2 arg11 A B k j (ix2 i l) = xm (arg2.view.read (Elt Ideal) A) (arg11.view.read (Elt Ideal) B)
      ⟨32 * k.val + 0 + i.val, by omega⟩ ⟨128 * j.val + l.val, by omega⟩ := by
  match j with
  | ⟨0, _⟩ => exact half_elem arg2 arg11 A B _ _ 0 _ i l _ _ (by rw [off66_0 k]; rfl) (by rw [off66_0 k]; rfl) rfl (by show (32 * k.val + 0 + i.val) % 16 = i.val; omega)
  | ⟨1, _⟩ => exact half_elem arg2 arg11 A B _ _ 128 _ i l _ _ (by rw [off67_0 k]; rfl) (by rw [off67_0 k]; rfl) rfl (by show (32 * k.val + 0 + i.val) % 16 = i.val; omega)
  | ⟨2, _⟩ => exact half_elem arg2 arg11 A B _ _ 256 _ i l _ _ (by rw [off68_0 k]; rfl) (by rw [off68_0 k]; rfl) rfl (by show (32 * k.val + 0 + i.val) % 16 = i.val; omega)
  | ⟨3, _⟩ => exact half_elem arg2 arg11 A B _ _ 384 _ i l _ _ (by rw [off69_0 k]; rfl) (by rw [off69_0 k]; rfl) rfl (by show (32 * k.val + 0 + i.val) % 16 = i.val; omega)
  | ⟨4, _⟩ => exact half_elem arg2 arg11 A B _ _ 512 _ i l _ _ (by rw [off70_0 k]; rfl) (by rw [off70_0 k]; rfl) rfl (by show (32 * k.val + 0 + i.val) % 16 = i.val; omega)
  | ⟨5, _⟩ => exact half_elem arg2 arg11 A B _ _ 640 _ i l _ _ (by rw [off71_0 k]; rfl) (by rw [off71_0 k]; rfl) rfl (by show (32 * k.val + 0 + i.val) % 16 = i.val; omega)
  | ⟨6, _⟩ => exact half_elem arg2 arg11 A B _ _ 768 _ i l _ _ (by rw [off72_0 k]; rfl) (by rw [off72_0 k]; rfl) rfl (by show (32 * k.val + 0 + i.val) % 16 = i.val; omega)
  | ⟨7, _⟩ => exact half_elem arg2 arg11 A B _ _ 896 _ i l _ _ (by rw [off73_0 k]; rfl) (by rw [off73_0 k]; rfl) rfl (by show (32 * k.val + 0 + i.val) % 16 = i.val; omega)

/-- The ratios of the first sixteen rows, at the packed lanes. -/
theorem ratioLo_apply (k : Fin 16) (i : Fin 16) (s : Fin 128) :
    ratioLo arg2 arg11 A B k (ix2 i s) = pr (arg2.view.read (Elt Ideal) A) (arg11.view.read (Elt Ideal) B)
      ⟨32 * k.val + 0 + i.val, by omega⟩ ⟨4 * (blockOf s).val + s.val / 32, by omega⟩ :=
  ratio_of _ _ _ i _ s (fun l => halfLo_apply arg2 arg11 A B k (blockOf s) i l)

/-- The masked loads of the last sixteen rows. -/
theorem halfHi_apply (k : Fin 16) (j : Fin 8) (i : Fin 16) (l : Fin 128) :
    halfHi arg2 arg11 A B k j (ix2 i l) = xm (arg2.view.read (Elt Ideal) A) (arg11.view.read (Elt Ideal) B)
      ⟨32 * k.val + 16 + i.val, by omega⟩ ⟨128 * j.val + l.val, by omega⟩ := by
  match j with
  | ⟨0, _⟩ => exact half_elem arg2 arg11 A B _ _ 0 _ i l _ _ (by rw [off66_16 k]; rfl) (by rw [off66_16 k]; rfl) rfl (by show (32 * k.val + 16 + i.val) % 16 = i.val; omega)
  | ⟨1, _⟩ => exact half_elem arg2 arg11 A B _ _ 128 _ i l _ _ (by rw [off67_16 k]; rfl) (by rw [off67_16 k]; rfl) rfl (by show (32 * k.val + 16 + i.val) % 16 = i.val; omega)
  | ⟨2, _⟩ => exact half_elem arg2 arg11 A B _ _ 256 _ i l _ _ (by rw [off68_16 k]; rfl) (by rw [off68_16 k]; rfl) rfl (by show (32 * k.val + 16 + i.val) % 16 = i.val; omega)
  | ⟨3, _⟩ => exact half_elem arg2 arg11 A B _ _ 384 _ i l _ _ (by rw [off69_16 k]; rfl) (by rw [off69_16 k]; rfl) rfl (by show (32 * k.val + 16 + i.val) % 16 = i.val; omega)
  | ⟨4, _⟩ => exact half_elem arg2 arg11 A B _ _ 512 _ i l _ _ (by rw [off70_16 k]; rfl) (by rw [off70_16 k]; rfl) rfl (by show (32 * k.val + 16 + i.val) % 16 = i.val; omega)
  | ⟨5, _⟩ => exact half_elem arg2 arg11 A B _ _ 640 _ i l _ _ (by rw [off71_16 k]; rfl) (by rw [off71_16 k]; rfl) rfl (by show (32 * k.val + 16 + i.val) % 16 = i.val; omega)
  | ⟨6, _⟩ => exact half_elem arg2 arg11 A B _ _ 768 _ i l _ _ (by rw [off72_16 k]; rfl) (by rw [off72_16 k]; rfl) rfl (by show (32 * k.val + 16 + i.val) % 16 = i.val; omega)
  | ⟨7, _⟩ => exact half_elem arg2 arg11 A B _ _ 896 _ i l _ _ (by rw [off73_16 k]; rfl) (by rw [off73_16 k]; rfl) rfl (by show (32 * k.val + 16 + i.val) % 16 = i.val; omega)

/-- The ratios of the last sixteen rows, at the packed lanes. -/
theorem ratioHi_apply (k : Fin 16) (i : Fin 16) (s : Fin 128) :
    ratioHi arg2 arg11 A B k (ix2 i s) = pr (arg2.view.read (Elt Ideal) A) (arg11.view.read (Elt Ideal) B)
      ⟨32 * k.val + 16 + i.val, by omega⟩ ⟨4 * (blockOf s).val + s.val / 32, by omega⟩ :=
  ratio_of _ _ _ i _ s (fun l => halfHi_apply arg2 arg11 A B k (blockOf s) i l)

/-! ## One trip's stores -/

/-- A store of eight rows of scales agrees with the block's scales if it does element by element. -/
theorem scale_piece (G : Fin 512 → Fin 32 → EReal) (P : S8x32.Idx → EReal) (off : Fin 2 → ℕ) (inb) (r0 : ℕ) (hr : r0 + 8 ≤ 512)
    (ho : off = ![r0, 0]) (h : ∀ (i : Fin 8) (c : Fin 32), P (ix2 i c) = G ⟨r0 + i.val, by omega⟩ c) (x : S8x32.Idx) :
    P x = (fun y : S512x32.Idx => G (y 0) (y 1)) ((Rect.unit (s := S512x32) off S8x32.size inb).emb x) := by
  subst ho
  obtain ⟨i, c, rfl⟩ : ∃ (i : Fin 8) (c : Fin 32), x = ix2 i c := ⟨x 0, x 1, eta2 x⟩
  rw [h]
  refine congrArg₂ G (Fin.ext ?_) (Fin.ext ?_)
  · exact (Rect.idx_unit_val (s := S512x32) ![r0, 0] S8x32.size inb (ix2 i c) 0).symm
  · exact ((Rect.idx_unit_val (s := S512x32) ![r0, 0] S8x32.size inb (ix2 i c) 1).trans (Nat.zero_add _)).symm

/-- A store of 32 rows of a lane block agrees with a function of the block's elements if it does element by element. -/
theorem block_piece (G : Fin 512 → Fin 1024 → EReal) (P : S32x128.Idx → EReal) (off : Fin 2 → ℕ) (inb) (r0 c0 : ℕ) (hr : r0 + 32 ≤ 512)
    (hc : c0 + 128 ≤ 1024) (ho : off = ![r0, c0])
    (h : ∀ (i : Fin 32) (l : Fin 128), P (ix2 i l) = G ⟨r0 + i.val, by omega⟩ ⟨c0 + l.val, by omega⟩) (x : S32x128.Idx) :
    P x = (fun y : S512x1024.Idx => G (y 0) (y 1)) ((Rect.unit (s := S512x1024) off S32x128.size inb).emb x) := by
  subst ho
  obtain ⟨i, l, rfl⟩ : ∃ (i : Fin 32) (l : Fin 128), x = ix2 i l := ⟨x 0, x 1, eta2 x⟩
  rw [h]
  refine congrArg₂ G (Fin.ext ?_) (Fin.ext ?_)
  · exact (Rect.idx_unit_val (s := S512x1024) ![r0, c0] S32x128.size inb (ix2 i l) 0).symm
  · exact (Rect.idx_unit_val (s := S512x1024) ![r0, c0] S32x128.size inb (ix2 i l) 1).symm

/-- Packed scales, read at a group's lane. -/
theorem scalesLo_unp (k : Fin 16) (i : Fin 16) (c : Fin 32) :
    scales (ratioLo arg2 arg11 A B k) (ix2 i (unp c)) = scaleAt (arg2.view.read (Elt Ideal) A) (arg11.view.read (Elt Ideal) B)
      ⟨32 * k.val + 0 + i.val, by omega⟩ c := by
  rw [scales_apply, ratioLo_apply]
  exact congrArg (fun g => scaleOf (pr _ _ _ g)) (Fin.ext (unp_group c))

theorem scalesHi_unp (k : Fin 16) (i : Fin 16) (c : Fin 32) :
    scales (ratioHi arg2 arg11 A B k) (ix2 i (unp c)) = scaleAt (arg2.view.read (Elt Ideal) A) (arg11.view.read (Elt Ideal) B)
      ⟨32 * k.val + 16 + i.val, by omega⟩ c := by
  rw [scales_apply, ratioHi_apply]
  exact congrArg (fun g => scaleOf (pr _ _ _ g)) (Fin.ext (unp_group c))

/-- The mask of a block's rows, two copies stacked. -/
theorem stack_mask (k : Fin 16) (o : ℕ) (inb) (ho : o + 128 ≤ 1024) (i : Fin 32) (l : Fin 128) :
    stack (F := Ideal) (arg11.view.readAt (Elt Ideal) (Rect.unit (s := S16x1024) ![0, o] S16x128.size inb).toLoadRect B)
        (arg11.view.readAt (Elt Ideal) (Rect.unit (s := S16x1024) ![0, o] S16x128.size inb).toLoadRect B) (ix2 i l)
      = arg11.view.read (Elt Ideal) B (ix2 (rowOf ⟨32 * k.val + i.val, by omega⟩) ⟨o + l.val, by omega⟩) := by
  refine stack_apply (arg11.view.readAt (Elt Ideal) (Rect.unit (s := S16x1024) ![0, o] S16x128.size inb).toLoadRect B)
    (arg11.view.readAt (Elt Ideal) (Rect.unit (s := S16x1024) ![0, o] S16x128.size inb).toLoadRect B) l (fun i : Fin 32 => arg11.view.read (Elt Ideal) B (ix2 (rowOf ⟨32 * k.val + i.val, by omega⟩) ⟨o + l.val, by omega⟩))
    (fun i => ?_) (fun i => ?_) i
  · rw [readMask arg11 B o inb i l ⟨o + l.val, by omega⟩ rfl]
    exact congrArg (fun r => arg11.view.read (Elt Ideal) B (ix2 r _)) (Fin.ext (by show i.val = (32 * k.val + i.val) % 16; omega))
  · rw [readMask arg11 B o inb i l ⟨o + l.val, by omega⟩ rfl]
    exact congrArg (fun r => arg11.view.read (Elt Ideal) B (ix2 r _)) (Fin.ext (by show i.val = (32 * k.val + (16 + i.val)) % 16; omega))

/-- Values of the packed ratios gathered to a block and stacked are those of the rows' groups. -/
theorem stack_gat {a b c : BitVec 32} {j : Fin 8} (hp : Place a b c j) (f : EReal → EReal) (u v : FVec Ideal S16x128 .bf16) (k : Fin 16)
    (hu : ∀ i, u i = f (ratioLo arg2 arg11 A B k i)) (hv : ∀ i, v i = f (ratioHi arg2 arg11 A B k i)) (i : Fin 32) (l : Fin 128) :
    stack (gat u (blockLane a b c)) (gat v (blockLane a b c)) (ix2 i l)
      = f (pr (arg2.view.read (Elt Ideal) A) (arg11.view.read (Elt Ideal) B) ⟨32 * k.val + i.val, by omega⟩ (groupOf ⟨128 * j.val + l.val, by omega⟩)) := by
  refine stack_apply _ _ l (fun i : Fin 32 => f (pr (arg2.view.read (Elt Ideal) A) (arg11.view.read (Elt Ideal) B) ⟨32 * k.val + i.val, by omega⟩
    (groupOf ⟨128 * j.val + l.val, by omega⟩))) (fun i => ?_) (fun i => ?_) i
  · exact gat_blockLane hp u i (fun g => f (pr (arg2.view.read (Elt Ideal) A) (arg11.view.read (Elt Ideal) B) ⟨32 * k.val + i.val, by omega⟩ g))
      (fun s => by rw [hu, ratioLo_apply]; rfl) l
  · exact gat_blockLane hp v i (fun g => f (pr (arg2.view.read (Elt Ideal) A) (arg11.view.read (Elt Ideal) B) ⟨32 * k.val + (16 + i.val), by omega⟩ g))
      (fun s => by
        rw [hv, ratioHi_apply]
        exact congrArg (fun r => f (pr _ _ r _)) (Fin.ext (by show 32 * k.val + 16 + i.val = 32 * k.val + (16 + i.val); omega))) l

/-- A lane block's codes, at an element. -/
theorem codes_elem {a b c : BitVec 32} {j : Fin 8} (hp : Place a b c j) (k : Fin 16) (off : Fin 2 → ℕ) (inb) (o : ℕ) (inb')
    (hj : o = 128 * j.val) (ho : off = ![32 * k.val, o]) (i : Fin 32) (l : Fin 128) :
    codes (inverses (ratioLo arg2 arg11 A B k)) (inverses (ratioHi arg2 arg11 A B k)) (blockLane a b c)
        (arg2.view.readAt (Elt Ideal) (Rect.unit (s := S512x1024) off S32x128.size inb).toLoadRect A)
        (arg11.view.readAt (Elt Ideal) (Rect.unit (s := S16x1024) ![0, o] S16x128.size inb').toLoadRect B) (ix2 i l)
      = codeAt (arg2.view.read (Elt Ideal) A) (arg11.view.read (Elt Ideal) B) ⟨32 * k.val + i.val, by omega⟩ ⟨o + l.val, by omega⟩ := by
  subst ho hj
  rw [codes_apply, stack_mask arg11 B k _ inb' (by omega) i l,
    stack_gat arg2 arg11 A B hp inverseOf _ _ k (fun i => inverses_apply _ i) (fun i => inverses_apply _ i) i l,
    read32 arg2 A _ inb i l ⟨32 * k.val + i.val, by omega⟩ ⟨128 * j.val + l.val, by omega⟩ rfl rfl]
  rfl

/-- A lane block's rows for the product, at an element. -/
theorem mixed_elem {a b c : BitVec 32} {j : Fin 8} (hp : Place a b c j) (k : Fin 16) (off : Fin 2 → ℕ) (inb) (o : ℕ) (inb')
    (hj : o = 128 * j.val) (ho : off = ![32 * k.val, o]) (i : Fin 32) (l : Fin 128) :
    mixed (inverses (ratioLo arg2 arg11 A B k)) (inverses (ratioHi arg2 arg11 A B k)) (scales (ratioLo arg2 arg11 A B k))
        (scales (ratioHi arg2 arg11 A B k)) (blockLane a b c)
        (arg2.view.readAt (Elt Ideal) (Rect.unit (s := S512x1024) off S32x128.size inb).toLoadRect A)
        (arg11.view.readAt (Elt Ideal) (Rect.unit (s := S16x1024) ![0, o] S16x128.size inb').toLoadRect B) (ix2 i l)
      = mixAt (arg2.view.read (Elt Ideal) A) (arg11.view.read (Elt Ideal) B) ⟨32 * k.val + i.val, by omega⟩ ⟨o + l.val, by omega⟩ := by
  rw [mixed_apply, codes_elem arg2 arg11 A B hp k off inb o inb' hj ho i l]
  subst ho hj
  rw [stack_mask arg11 B k _ inb' (by omega) i l,
    stack_gat arg2 arg11 A B hp scaleOf (truncf .bf16 (scales (ratioLo arg2 arg11 A B k)) bitsLt_bf16_f32)
      (truncf .bf16 (scales (ratioHi arg2 arg11 A B k)) bitsLt_bf16_f32) k (fun i => scales_apply _ i) (fun i => scales_apply _ i) i l,
    read32 arg2 A _ inb i l ⟨32 * k.val + i.val, by omega⟩ ⟨128 * j.val + l.val, by omega⟩ rfl rfl]
  rfl

theorem trip_scales_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 A B k).2.1, ∀ x, p.2 x = (fun y : S512x32.Idx => scaleAt (arg2.view.read (Elt Ideal) A) (arg11.view.read (Elt Ideal) B) (y 0) (y 1)) (p.1.emb x) := by
  have hk : k.val < 16 := k.isLt
  rw [trip_scales]
  refine View.PiecesOf.mem (Val := Elt Ideal) (e := .f32) (G := fun y : S512x32.Idx => scaleAt (arg2.view.read (Elt Ideal) A) (arg11.view.read (Elt Ideal) B) (y 0) (y 1)) ?_
  refine ⟨?_, ?_, ?_, ?_, trivial⟩
  · refine scale_piece _ _ _ (k0_off74_inb k 1 1) (32 * k.val + 24) (by omega) (off74_16_8 k) (fun i c => ?_)
    refine (scaleRowsHi_apply _ i c).trans ((scalesHi_unp arg2 arg11 A B k _ c).trans ?_)
    exact congrArg (fun r => scaleAt _ _ r c) (Fin.ext (by show 32 * k.val + 16 + (8 + i.val) = 32 * k.val + 24 + i.val; omega))
  · refine scale_piece _ _ _ (k0_off74_inb k 1 0) (32 * k.val + 16) (by omega) (off74_16_0 k) (fun i c => ?_)
    exact (scaleRowsLo_apply _ i c).trans (scalesHi_unp arg2 arg11 A B k _ c)
  · refine scale_piece _ _ _ (k0_off74_inb k 0 1) (32 * k.val + 8) (by omega) (off74_0_8 k) (fun i c => ?_)
    refine (scaleRowsHi_apply _ i c).trans ((scalesLo_unp arg2 arg11 A B k _ c).trans ?_)
    exact congrArg (fun r => scaleAt _ _ r c) (Fin.ext (by show 32 * k.val + 0 + (8 + i.val) = 32 * k.val + 8 + i.val; omega))
  · refine scale_piece _ _ _ (k0_off74_inb k 0 0) (32 * k.val + 0) (by omega) (off74_0_0 k) (fun i c => ?_)
    exact (scaleRowsLo_apply _ i c).trans (scalesLo_unp arg2 arg11 A B k _ c)

theorem trip_codes_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 A B k).1, ∀ x, p.2 x = (fun y : S512x1024.Idx => codeAt (arg2.view.read (Elt Ideal) A) (arg11.view.read (Elt Ideal) B) (y 0) (y 1)) (p.1.emb x) := by
  have hk : k.val < 16 := k.isLt
  rw [trip_codes]
  refine View.PiecesOf.mem (Val := Elt Ideal) (e := .fp8e4m3) (G := fun y : S512x1024.Idx => codeAt (arg2.view.read (Elt Ideal) A) (arg11.view.read (Elt Ideal) B) (y 0) (y 1)) ?_
  refine ⟨?_, ?_, ?_, ?_, ?_, ?_, ?_, ?_, trivial⟩
  · exact block_piece _ _ _ (k0_off82_inb k) (32 * k.val) 896 (by omega) (by omega) (off82_eq k) (codes_elem arg2 arg11 A B place7 k _ _ _ _ rfl (off82_eq k))
  · exact block_piece _ _ _ (k0_off81_inb k) (32 * k.val) 768 (by omega) (by omega) (off81_eq k) (codes_elem arg2 arg11 A B place6 k _ _ _ _ rfl (off81_eq k))
  · exact block_piece _ _ _ (k0_off80_inb k) (32 * k.val) 640 (by omega) (by omega) (off80_eq k) (codes_elem arg2 arg11 A B place5 k _ _ _ _ rfl (off80_eq k))
  · exact block_piece _ _ _ (k0_off79_inb k) (32 * k.val) 512 (by omega) (by omega) (off79_eq k) (codes_elem arg2 arg11 A B place4 k _ _ _ _ rfl (off79_eq k))
  · exact block_piece _ _ _ (k0_off78_inb k) (32 * k.val) 384 (by omega) (by omega) (off78_eq k) (codes_elem arg2 arg11 A B place3 k _ _ _ _ rfl (off78_eq k))
  · exact block_piece _ _ _ (k0_off77_inb k) (32 * k.val) 256 (by omega) (by omega) (off77_eq k) (codes_elem arg2 arg11 A B place2 k _ _ _ _ rfl (off77_eq k))
  · exact block_piece _ _ _ (k0_off76_inb k) (32 * k.val) 128 (by omega) (by omega) (off76_eq k) (codes_elem arg2 arg11 A B place1 k _ _ _ _ rfl (off76_eq k))
  · exact block_piece _ _ _ (k0_off75_inb k) (32 * k.val) 0 (by omega) (by omega) (off75_eq k) (codes_elem arg2 arg11 A B place0 k _ _ _ _ rfl (off75_eq k))

theorem trip_mixed_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 A B k).2.2.1, ∀ x, p.2 x = (fun y : S512x1024.Idx => mixAt (arg2.view.read (Elt Ideal) A) (arg11.view.read (Elt Ideal) B) (y 0) (y 1)) (p.1.emb x) := by
  have hk : k.val < 16 := k.isLt
  rw [trip_mixed]
  refine View.PiecesOf.mem (Val := Elt Ideal) (e := .bf16) (G := fun y : S512x1024.Idx => mixAt (arg2.view.read (Elt Ideal) A) (arg11.view.read (Elt Ideal) B) (y 0) (y 1)) ?_
  refine ⟨?_, ?_, ?_, ?_, ?_, ?_, ?_, ?_, trivial⟩
  · exact block_piece _ _ _ (k0_off82_inb k) (32 * k.val) 896 (by omega) (by omega) (off82_eq k) (mixed_elem arg2 arg11 A B place7 k _ _ _ _ rfl (off82_eq k))
  · exact block_piece _ _ _ (k0_off81_inb k) (32 * k.val) 768 (by omega) (by omega) (off81_eq k) (mixed_elem arg2 arg11 A B place6 k _ _ _ _ rfl (off81_eq k))
  · exact block_piece _ _ _ (k0_off80_inb k) (32 * k.val) 640 (by omega) (by omega) (off80_eq k) (mixed_elem arg2 arg11 A B place5 k _ _ _ _ rfl (off80_eq k))
  · exact block_piece _ _ _ (k0_off79_inb k) (32 * k.val) 512 (by omega) (by omega) (off79_eq k) (mixed_elem arg2 arg11 A B place4 k _ _ _ _ rfl (off79_eq k))
  · exact block_piece _ _ _ (k0_off78_inb k) (32 * k.val) 384 (by omega) (by omega) (off78_eq k) (mixed_elem arg2 arg11 A B place3 k _ _ _ _ rfl (off78_eq k))
  · exact block_piece _ _ _ (k0_off77_inb k) (32 * k.val) 256 (by omega) (by omega) (off77_eq k) (mixed_elem arg2 arg11 A B place2 k _ _ _ _ rfl (off77_eq k))
  · exact block_piece _ _ _ (k0_off76_inb k) (32 * k.val) 128 (by omega) (by omega) (off76_eq k) (mixed_elem arg2 arg11 A B place1 k _ _ _ _ rfl (off76_eq k))
  · exact block_piece _ _ _ (k0_off75_inb k) (32 * k.val) 0 (by omega) (by omega) (off75_eq k) (mixed_elem arg2 arg11 A B place0 k _ _ _ _ rfl (off75_eq k))

/-! ## The whole loop -/

/-- Every store of scales by the first `n` trips is a block of the function of the 512 rows. -/
theorem loop_scales_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (n : ℕ) (hn : n ≤ 16) :
    ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 A B n).2.1, ∀ x, p.2 x = (fun y : S512x32.Idx => scaleAt (arg2.view.read (Elt Ideal) A) (arg11.view.read (Elt Ideal) B) (y 0) (y 1)) (p.1.emb x) := by
  induction n with
  | zero => intro p hp; exact absurd hp List.not_mem_nil
  | succ n ih =>
    intro p hp
    rw [pb_k0_t2_succ 𝒱 c bd i arg1 harg1 arg2 harg2 arg3 harg3 arg4 harg4 arg5 harg5 arg6 harg6 arg7 harg7 arg8 harg8 arg9 harg9 arg10 harg10 arg11 harg11 arg12 harg12 A B ⟨n, hn⟩] at hp
    rcases List.mem_append.mp hp with h | h
    · exact trip_scales_of arg2 arg11 A B 𝒱 c bd i arg1 harg1 harg2 arg3 harg3 arg4 harg4 arg5 harg5 arg6 harg6 arg7 harg7 arg8 harg8 arg9 harg9 arg10 harg10 harg11 arg12 harg12 ⟨n, hn⟩ p h
    · exact ih (by omega) p h

/-- Every store of codes by the first `n` trips is a block of the function of the 512 rows. -/
theorem loop_codes_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (n : ℕ) (hn : n ≤ 16) :
    ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 A B n).1, ∀ x, p.2 x = (fun y : S512x1024.Idx => codeAt (arg2.view.read (Elt Ideal) A) (arg11.view.read (Elt Ideal) B) (y 0) (y 1)) (p.1.emb x) := by
  induction n with
  | zero => intro p hp; exact absurd hp List.not_mem_nil
  | succ n ih =>
    intro p hp
    rw [pb_k0_t2_succ 𝒱 c bd i arg1 harg1 arg2 harg2 arg3 harg3 arg4 harg4 arg5 harg5 arg6 harg6 arg7 harg7 arg8 harg8 arg9 harg9 arg10 harg10 arg11 harg11 arg12 harg12 A B ⟨n, hn⟩] at hp
    rcases List.mem_append.mp hp with h | h
    · exact trip_codes_of arg2 arg11 A B 𝒱 c bd i arg1 harg1 harg2 arg3 harg3 arg4 harg4 arg5 harg5 arg6 harg6 arg7 harg7 arg8 harg8 arg9 harg9 arg10 harg10 harg11 arg12 harg12 ⟨n, hn⟩ p h
    · exact ih (by omega) p h

/-- Every store of rows for the product by the first `n` trips is a block of the function of the 512 rows. -/
theorem loop_mixed_of (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (n : ℕ) (hn : n ≤ 16) :
    ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 A B n).2.2, ∀ x, p.2 x = (fun y : S512x1024.Idx => mixAt (arg2.view.read (Elt Ideal) A) (arg11.view.read (Elt Ideal) B) (y 0) (y 1)) (p.1.emb x) := by
  induction n with
  | zero => intro p hp; exact absurd hp List.not_mem_nil
  | succ n ih =>
    intro p hp
    rw [pb_k0_t2_succ 𝒱 c bd i arg1 harg1 arg2 harg2 arg3 harg3 arg4 harg4 arg5 harg5 arg6 harg6 arg7 harg7 arg8 harg8 arg9 harg9 arg10 harg10 arg11 harg11 arg12 harg12 A B ⟨n, hn⟩] at hp
    rcases List.mem_append.mp hp with h | h
    · exact trip_mixed_of arg2 arg11 A B 𝒱 c bd i arg1 harg1 harg2 arg3 harg3 arg4 harg4 arg5 harg5 arg6 harg6 arg7 harg7 arg8 harg8 arg9 harg9 arg10 harg10 harg11 arg12 harg12 ⟨n, hn⟩ p h
    · exact ih (by omega) p h

/-- The lane block of 32 rows an element lies in is one of its trip's stores. -/
theorem trip_mixed_covers (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (k : Fin k0_t2_loop.trips) (y : S512x1024.Idx)
    (hy : (y 0).val / 32 = k.val) : ∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 A B k).2.2.1, y ∈ p.1.set := by
  have h1 : (y 1).val < 1024 := (y 1).isLt
  have key : ∀ (off : Fin 2 → ℕ) (inb) (o : ℕ), off = ![32 * k.val, o] → o ≤ (y 1).val → (y 1).val < o + 128 →
      y ∈ (Rect.unit (s := S512x1024) off S32x128.size inb).set := by
    intro off inb o ho h2 h3
    have hk : k.val < 16 := k.isLt
    subst ho
    rw [Rect.mem_set_unit]; intro a
    match a with
    | ⟨0, _⟩ => exact ⟨by show 32 * k.val ≤ (y 0).val; omega, by show (y 0).val < 32 * k.val + 32; omega⟩
    | ⟨1, _⟩ => exact ⟨h2, h3⟩
  have hk : k.val < 16 := k.isLt
  rw [trip_mixed]
  obtain h | h | h | h | h | h | h | h : (y 1).val / 128 = 7 ∨ (y 1).val / 128 = 6 ∨ (y 1).val / 128 = 5 ∨ (y 1).val / 128 = 4
      ∨ (y 1).val / 128 = 3 ∨ (y 1).val / 128 = 2 ∨ (y 1).val / 128 = 1 ∨ (y 1).val / 128 = 0 := by omega
  · exact ⟨_, List.mem_cons_self, key _ (k0_off82_inb k) 896 (off82_eq k) (by omega) (by omega)⟩
  · exact ⟨_, List.mem_cons_of_mem _ (List.mem_cons_self), key _ (k0_off81_inb k) 768 (off81_eq k) (by omega) (by omega)⟩
  · exact ⟨_, List.mem_cons_of_mem _ (List.mem_cons_of_mem _ (List.mem_cons_self)), key _ (k0_off80_inb k) 640 (off80_eq k) (by omega) (by omega)⟩
  · exact ⟨_, List.mem_cons_of_mem _ (List.mem_cons_of_mem _ (List.mem_cons_of_mem _ (List.mem_cons_self))), key _ (k0_off79_inb k) 512 (off79_eq k) (by omega) (by omega)⟩
  · exact ⟨_, List.mem_cons_of_mem _ (List.mem_cons_of_mem _ (List.mem_cons_of_mem _ (List.mem_cons_of_mem _ (List.mem_cons_self)))), key _ (k0_off78_inb k) 384 (off78_eq k) (by omega) (by omega)⟩
  · exact ⟨_, List.mem_cons_of_mem _ (List.mem_cons_of_mem _ (List.mem_cons_of_mem _ (List.mem_cons_of_mem _ (List.mem_cons_of_mem _ (List.mem_cons_self))))), key _ (k0_off77_inb k) 256 (off77_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_self)))))), key _ (k0_off76_inb k) 128 (off76_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key _ (k0_off75_inb k) 0 (off75_eq k) (by omega) (by omega)⟩

/-- The stores of the first `n` trips cover the first `32 n` rows. -/
theorem loop_mixed_covers (𝒱 : Variants) (c : Dev nD) (bd : Option 𝒱.V) (i : grid0.Coords) (arg1 : Memref sig .tc .vmem S1x128 .i32) (harg1 : arg1.IsWhole) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (harg11 : arg11.IsWhole) (arg12 : Memref sig .tc .vmem S1024x128 .bf16) (harg12 : arg12.IsWhole) (n : ℕ) (hn : n ≤ 16) (y : S512x1024.Idx)
    (hy : (y 0).val / 32 < n) : ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 A B n).2.2, y ∈ p.1.set := by
  induction n with
  | zero => omega
  | succ n ih =>
    rw [pb_k0_t2_succ 𝒱 c bd i arg1 harg1 arg2 harg2 arg3 harg3 arg4 harg4 arg5 harg5 arg6 harg6 arg7 harg7 arg8 harg8 arg9 harg9 arg10 harg10 arg11 harg11 arg12 harg12 A B ⟨n, hn⟩]
    by_cases h : (y 0).val / 32 < n
    · obtain ⟨p, hp, hm⟩ := ih (by omega) h
      exact ⟨p, List.mem_append_right _ hp, hm⟩
    · obtain ⟨p, hp, hm⟩ := trip_mixed_covers arg2 arg11 A B 𝒱 c bd i arg1 harg1 harg2 arg3 harg3 arg4 harg4 arg5 harg5 arg6 harg6 arg7 harg7 arg8 harg8 arg9 harg9 arg10 harg10 harg11 arg12 harg12 ⟨n, hn⟩ y (by show _ = n; omega)
      exact ⟨p, List.mem_append_left _ hp, hm⟩

end Cert.Quant

end
-- ==== Proof.PrepVec.lean ====
/- The combinators of the preparation, element by element, on the extended reals: the one-hot rows, the mask, and one
   block of 32 rows of the prepared weights. -/
module

public import proofs.«01_k».proof.Proof.Gen.KernelIdeal.Value
public import Idealize.ShloMosaic.PureOps.Ideal
public import Idealize.ShloMosaic.Lib.ValueIdx
public import Idealize.ShloMosaic.Lib.IdealHost
public import Idealize.ShloMosaic.Lib.MatmulPlain
public import Idealize.ShloMosaic.Lib.Pipeline.Value

@[expose] public section

noncomputable section

namespace Cert.Prep

open Idealize.ShloMosaic Idealize.ShloMosaic.TcCoe Idealize.ShloMosaic.ValueIdx
open Cert.KernelIdeal Cert.KernelIdeal.Gen

/-- One block of the prepared weights: the rows picked by the one-hot product where a row of the one-hot block is not
    zero, the codes times their scales elsewhere. -/
def weightRows {F : FTy → Type} [FloatOps F] (oh : FVec F S32x128 .bf16) (wo : FVec F S128x256 .bf16) (ws : FVec F S1x256 .f32)
    (wc : FVec F S32x256 .fp8e4m3) : FVec F S32x256 .bf16 :=
  shapeCast S32x256 (truncf .bf16 (select
    (broadcastTo S32x256 (shapeCast S32x1 (cmpf .ogt
        (shapeCast S32x1 (multiReduction .maximumf [1] S32 (extf .f32 oh bitsLt_bf16_f32) 0xFF800000#32 reduces_S32x128_S32 (.inl rfl) rfl) shapeCasts_S32_S32x1)
        (broadcast S32x1 (Scalar.ofBits .f32 0x00000000#32))) shapeCasts_S32x1_S32x1) broadcasts_S32x1_S32x256)
    (extf .f32 (truncf .bf16 (matmul dot_S32x128_S128x256_S32x256_1_0_0_1_n_n none oh wo (constant S32x256 .f32 0x00000000#32)) bitsLt_bf16_f32) bitsLt_bf16_f32)
    (extf .f32 (mulf (extf .bf16 wc bitsLt_fp8e4m3_bf16) (broadcastTo S32x256 (truncf .bf16 ws bitsLt_bf16_f32) broadcasts_S1x256_S32x256)) bitsLt_bf16_f32))
    bitsLt_bf16_f32) shapeCasts_S32x256_S32x256

theorem dot_rows : dot_S32x128_S128x256_S32x256_1_0_0_1_n_n = DotDims.plain 32 128 256 := rfl
theorem dot_ones : dot_S16x128_S1024x128_S16x1024_1_1_0_0_n_n = DotDims.transposedRhs 16 128 1024 := rfl

/-- The least f32 pattern denotes `-∞`. -/
theorem ofBits_bot : Ideal.ofBits .f32 0xFF800000#32 = ⊥ := by simp [Ideal.ofBits, Ideal.ieee]

/-- Whether a row of a one-hot block is not zero. -/
theorem row_hit (oh : FVec Ideal S32x128 .f32) (i : Fin 32) (n : Fin 256) :
    broadcastTo S32x256 (shapeCast S32x1 (cmpf .ogt
        (shapeCast S32x1 (multiReduction .maximumf [1] S32 oh 0xFF800000#32 reduces_S32x128_S32 (.inl rfl) rfl) shapeCasts_S32_S32x1)
        (broadcast S32x1 (Scalar.ofBits .f32 0x00000000#32))) shapeCasts_S32x1_S32x1) broadcasts_S32x1_S32x256 (ix2 i n)
      = BitVec.ofBool (decide (∃ k : Fin 128, (0 : EReal) < oh (ix2 i k))) := by
  rw [broadcastTo_apply _ _ _ (ix2 i (0 : Fin 1)) (fun a => by match a with | ⟨0, _⟩ => rfl | ⟨1, _⟩ => rfl), shapeCast_self]
  show Ideal.cmp .ogt (shapeCast S32x1 (multiReduction .maximumf [1] S32 oh 0xFF800000#32 reduces_S32x128_S32 (.inl rfl) rfl)
    shapeCasts_S32_S32x1 (ix2 i (0 : Fin 1))) (Ideal.ofBits .f32 0x00000000#32) = _
  rw [shapeCast_apply _ _ _ (ix1 i) (by
      rw [Shape.rowMajor_val_one, Shape.rowMajor_val_two]; show i.val = i.val * 1 + 0; omega)]
  refine (congrArg (fun z : EReal => Ideal.cmp .ogt z (Ideal.ofBits .f32 0x00000000#32))
    (Ideal.multiReduction_maximumf_single oh 0xFF800000#32 reduces_S32x128_S32 (.inl rfl) rfl (ix1 i))).trans ?_
  rw [Ideal.ofBits_zero_f32]
  refine congrArg BitVec.ofBool (decide_eq_decide.mpr ?_)
  show (0 : EReal) < Finset.fold max (Ideal.ofBits .f32 0xFF800000#32) _ _ ↔ _
  rw [Finset.lt_fold_max, ofBits_bot]
  have e : ∀ k : Fin 128, reduces_S32x128_S32.lift (ix1 i) k = ix2 i k := fun k => by
    funext a; match a with
    | ⟨0, _⟩ => rfl
    | ⟨1, _⟩ => rfl
  constructor
  · rintro (h | ⟨k, -, hk⟩)
    · exact absurd h not_lt_bot
    · exact ⟨k, by rw [← e k]; exact hk⟩
  · rintro ⟨k, hk⟩
    exact Or.inr ⟨k, Finset.mem_univ _, by show 0 < oh _; rw [e k]; exact hk⟩

/-- A block of the prepared weights, at an element. -/
theorem weightRows_apply (oh : FVec Ideal S32x128 .bf16) (wo : FVec Ideal S128x256 .bf16) (ws : FVec Ideal S1x256 .f32)
    (wc : FVec Ideal S32x256 .fp8e4m3) (i : Fin 32) (n : Fin 256) :
    weightRows (F := Ideal) oh wo ws wc (ix2 i n)
      = if ∃ k : Fin 128, 0 < oh (ix2 i k) then ∑ k : Fin 128, oh (ix2 i k) * wo (ix2 k n) else wc (ix2 i n) * ws (ix2 0 n) := by
  unfold weightRows
  rw [shapeCast_self]
  show Scalar.select (broadcastTo S32x256 _ _ (ix2 i n)) _ _ = _
  rw [row_hit (extf .f32 oh bitsLt_bf16_f32)]
  have hs : ∀ (p : Prop) [Decidable p] (a b : EReal), Scalar.select (BitVec.ofBool (decide p)) a b = if p then a else b := fun p _ a b => by
    by_cases h : p <;> simp [h, Scalar.select]
  rw [hs]
  refine if_congr Iff.rfl ?_ ?_
  · show FloatOps.matmul (F := Ideal) dot_S32x128_S128x256_S32x256_1_0_0_1_n_n none oh wo (constant S32x256 .f32 0x00000000#32) (ix2 i n) = _
    rw [dot_rows, Ideal.matmul_plain_apply]
    show Ideal.ofBits .f32 0x00000000#32 + _ = _
    rw [Ideal.ofBits_zero_f32, zero_add]
  · show wc (ix2 i n) * broadcastTo S32x256 (truncf (F := Ideal) .bf16 ws bitsLt_bf16_f32) broadcasts_S1x256_S32x256 (ix2 i n) = _
    rw [broadcastTo_apply _ _ _ (ix2 (0 : Fin 1) n) (fun a => by match a with | ⟨0, _⟩ => rfl | ⟨1, _⟩ => rfl)]
    rfl

/-- Whether a channel is the one an index names, as a number. -/
def hot (I : S1x128.Idx → BitVec 32) (d : Fin 1024) (k : Fin 128) : EReal :=
  if BitVec.ofNat 32 d.val = I (ix2 (0 : Fin 1) k) then 1 else 0

/-- The mask of a channel: one less the number of indices that name it. -/
def keepAt (I : S1x128.Idx → BitVec 32) (d : Fin 1024) : EReal := 1 - ∑ k : Fin 128, hot I d k

/-- The prepared weights. -/
def weightAt (I : S1x128.Idx → BitVec 32) (WO : S128x5376.Idx → EReal) (WC : S1024x5376.Idx → EReal) (WS : S32x5376.Idx → EReal)
    (d : Fin 1024) (n : Fin 5376) : EReal :=
  if ∃ k : Fin 128, 0 < hot I d k then ∑ k : Fin 128, hot I d k * WO (ix2 k n)
  else WC (ix2 d n) * WS (ix2 (⟨d.val / 32, by omega⟩ : Fin 32) n)

/-- The one-hot rows, at an element. -/
theorem oneHot_apply (I : Vec Ideal S1x128 .i32) (d : Fin 1024) (k : Fin 128) : k0_pay227 (F := Ideal) I (ix2 d k) = hot I d k := by
  unfold k0_pay227
  rw [shapeCast_self]
  show ((((IntOp.cmpi .eq (iota .tc S1024x128 32 [0] iota_S1024x128_d0_w32 (ix2 d k)) (broadcastTo S1024x128 I broadcasts_S1x128_S1024x128 (ix2 d k))).setWidth 32).toInt : ℝ) : EReal) = _
  rw [broadcastTo_apply _ _ _ (ix2 (0 : Fin 1) k) (fun a => by match a with | ⟨0, _⟩ => rfl | ⟨1, _⟩ => rfl),
    show iota .tc S1024x128 32 [0] iota_S1024x128_d0_w32 (ix2 d k) = BitVec.ofNat 32 d.val from
      iota_single_apply .tc S1024x128 32 0 iota_S1024x128_d0_w32 (ix2 d k)]
  unfold hot
  by_cases h : BitVec.ofNat 32 d.val = I (ix2 (0 : Fin 1) k)
  · rw [if_pos h, h]; simp [IntOp.cmpi]
  · have hb : (BitVec.ofNat 32 d.val == I (ix2 (0 : Fin 1) k)) = false := beq_eq_false_iff_ne.mpr h
    rw [if_neg h]; simp [IntOp.cmpi, hb]

theorem onehot_stored (I : Vec Ideal S1x128 .i32) (d : Fin 1024) (k : Fin 128) : k0_pay228 (F := Ideal) I (ix2 d k) = hot I d k := by
  unfold k0_pay228
  rw [shapeCast_self]; exact oneHot_apply I d k

/-- The mask's rows, at an element. -/
theorem keep_stored (I : Vec Ideal S1x128 .i32) (i : Fin 16) (d : Fin 1024) : k0_pay229 (F := Ideal) I (ix2 i d) = keepAt I d := by
  unfold k0_pay229
  rw [shapeCast_self]
  show Ideal.ofBits .f32 0x3F800000#32 - FloatOps.matmul (F := Ideal) (φ₁ := .bf16) (φ₂ := .bf16) dot_S16x128_S1024x128_S16x1024_1_1_0_0_n_n none
    (broadcast S16x128 (Scalar.ofBits .bf16 0x3F80#16)) (k0_pay227 (F := Ideal) I) (constant S16x1024 .f32 0x00000000#32) (ix2 i d) = _
  rw [dot_ones, Ideal.matmul_transposedRhs_apply]
  show Ideal.ofBits .f32 0x3F800000#32 - (Ideal.ofBits .f32 0x00000000#32 + ∑ k : Fin 128, Ideal.ofBits .bf16 0x3F80#16 * k0_pay227 (F := Ideal) I (ix2 d k)) = _
  rw [Ideal.ofBits_zero_f32, zero_add, Ideal.ofBits_one_f32, Ideal.ofBits_one_bf16]
  simp only [one_mul, oneHot_apply]
  rfl

end Cert.Prep

end
-- ==== Proof.PrepTrip.lean ====
/- What the preparation stores: the loop's blocks of prepared weights, as one function of the one-hot rows, the outlier rows,
   the codes and their scales. -/
module

public import proofs.«01_k».proof.Proof.PrepVec
public import Idealize.ShloMosaic.Lib.Pipeline.ReadBack
public import Idealize.ShloMosaic.Lib.Pipeline.ValueKit.Tiles

@[expose] public section

noncomputable section

namespace Cert.Prep

open Idealize.ShloMosaic Idealize.ShloMosaic.TcCoe Idealize.ShloMosaic.ValueIdx Idealize.SL.Sem
open Cert.KernelIdeal Cert.KernelIdeal.Gen

/-- The prepared weight of one channel and column, over the one-hot rows `H`. -/
def pickAt (H : S1024x128.Idx → EReal) (WO : S128x5376.Idx → EReal) (WC : S1024x5376.Idx → EReal) (WS : S32x5376.Idx → EReal)
    (d : Fin 1024) (n : Fin 5376) : EReal :=
  if ∃ k : Fin 128, 0 < H (ix2 d k) then ∑ k : Fin 128, H (ix2 d k) * WO (ix2 k n)
  else WC (ix2 d n) * WS (ix2 (⟨d.val / 32, by omega⟩ : Fin 32) n)

section
variable {F : FTy → Type} [FloatOps F]

/-- One block of the prepared weights, over the loads. -/
def weightLoad (arg3 : Memref sig .tc .vmem S128x5376 .bf16) (arg4 : Memref sig .tc .vmem S1024x5376 .fp8e4m3)
    (arg5 : Memref sig .tc .vmem S32x5376 .f32) (arg12 : Memref sig .tc .vmem S1024x128 .bf16)
    (X3 : BufTy.Contents (Elt F) arg3.view.ty) (X4 : BufTy.Contents (Elt F) arg4.view.ty) (X5 : BufTy.Contents (Elt F) arg5.view.ty)
    (X12 : BufTy.Contents (Elt F) arg12.view.ty) (o1 : Fin 2 → ℕ) (inb1 : ∀ a, o1 a + S128x256.size a ≤ S128x5376.size a)
    (o2 : Fin 2 → ℕ) (inb2 : ∀ a, o2 a + S1x256.size a ≤ S32x5376.size a) (o3 : Fin 2 → ℕ) (inb3 : ∀ a, o3 a + S32x256.size a ≤ S1024x5376.size a)
    (o4 : Fin 2 → ℕ) (inb4 : ∀ a, o4 a + S32x128.size a ≤ S1024x128.size a) : FVec F S32x256 .bf16 :=
  weightRows (arg12.view.readAt (Elt F) (Rect.unit (s := S1024x128) o4 S32x128.size inb4).toLoadRect X12)
    (arg3.view.readAt (Elt F) (Rect.unit (s := S128x5376) o1 S128x256.size inb1).toLoadRect X3)
    (arg5.view.readAt (Elt F) (Rect.unit (s := S32x5376) o2 S1x256.size inb2).toLoadRect X5)
    (arg4.view.readAt (Elt F) (Rect.unit (s := S1024x5376) o3 S32x256.size inb3).toLoadRect X4)

/-- The trip stores its columns of the weights, 32 rows at a time. -/
theorem trip_weights (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole) (k0_h1 : k0_cond1 i = 1#1) (X3 : BufTy.Contents (Elt F) arg3.view.ty)
  (X4 : BufTy.Contents (Elt F) arg4.view.ty) (X5 : BufTy.Contents (Elt F) arg5.view.ty) (X12 : BufTy.Contents (Elt F) arg12.view.ty) (k : Fin k0_t1_loop.trips) :
  (trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X3 X4 X5 X12 k).1 =
    [⟨Rect.unit (k0_off65 k) S32x256.size (k0_off65_inb i k k0_h1), weightLoad arg3 arg4 arg5 arg12 X3 X4 X5 X12 _ (k0_off1_inb i k k0_h1) _ (k0_off64_inb i k k0_h1) _ (k0_off65_inb i k k0_h1) ![992, 0] inb_S1024x128_S32x128_992_0⟩,
    ⟨Rect.unit (k0_off63 k) S32x256.size (k0_off63_inb i k k0_h1), weightLoad arg3 arg4 arg5 arg12 X3 X4 X5 X12 _ (k0_off1_inb i k k0_h1) _ (k0_off62_inb i k k0_h1) _ (k0_off63_inb i k k0_h1) ![960, 0] inb_S1024x128_S32x128_960_0⟩,
    ⟨Rect.unit (k0_off61 k) S32x256.size (k0_off61_inb i k k0_h1), weightLoad arg3 arg4 arg5 arg12 X3 X4 X5 X12 _ (k0_off1_inb i k k0_h1) _ (k0_off60_inb i k k0_h1) _ (k0_off61_inb i k k0_h1) ![928, 0] inb_S1024x128_S32x128_928_0⟩,
    ⟨Rect.unit (k0_off59 k) S32x256.size (k0_off59_inb i k k0_h1), weightLoad arg3 arg4 arg5 arg12 X3 X4 X5 X12 _ (k0_off1_inb i k k0_h1) _ (k0_off58_inb i k k0_h1) _ (k0_off59_inb i k k0_h1) ![896, 0] inb_S1024x128_S32x128_896_0⟩,
    ⟨Rect.unit (k0_off57 k) S32x256.size (k0_off57_inb i k k0_h1), weightLoad arg3 arg4 arg5 arg12 X3 X4 X5 X12 _ (k0_off1_inb i k k0_h1) _ (k0_off56_inb i k k0_h1) _ (k0_off57_inb i k k0_h1) ![864, 0] inb_S1024x128_S32x128_864_0⟩,
    ⟨Rect.unit (k0_off55 k) S32x256.size (k0_off55_inb i k k0_h1), weightLoad arg3 arg4 arg5 arg12 X3 X4 X5 X12 _ (k0_off1_inb i k k0_h1) _ (k0_off54_inb i k k0_h1) _ (k0_off55_inb i k k0_h1) ![832, 0] inb_S1024x128_S32x128_832_0⟩,
    ⟨Rect.unit (k0_off53 k) S32x256.size (k0_off53_inb i k k0_h1), weightLoad arg3 arg4 arg5 arg12 X3 X4 X5 X12 _ (k0_off1_inb i k k0_h1) _ (k0_off52_inb i k k0_h1) _ (k0_off53_inb i k k0_h1) ![800, 0] inb_S1024x128_S32x128_800_0⟩,
    ⟨Rect.unit (k0_off51 k) S32x256.size (k0_off51_inb i k k0_h1), weightLoad arg3 arg4 arg5 arg12 X3 X4 X5 X12 _ (k0_off1_inb i k k0_h1) _ (k0_off50_inb i k k0_h1) _ (k0_off51_inb i k k0_h1) ![768, 0] inb_S1024x128_S32x128_768_0⟩,
    ⟨Rect.unit (k0_off49 k) S32x256.size (k0_off49_inb i k k0_h1), weightLoad arg3 arg4 arg5 arg12 X3 X4 X5 X12 _ (k0_off1_inb i k k0_h1) _ (k0_off48_inb i k k0_h1) _ (k0_off49_inb i k k0_h1) ![736, 0] inb_S1024x128_S32x128_736_0⟩,
    ⟨Rect.unit (k0_off47 k) S32x256.size (k0_off47_inb i k k0_h1), weightLoad arg3 arg4 arg5 arg12 X3 X4 X5 X12 _ (k0_off1_inb i k k0_h1) _ (k0_off46_inb i k k0_h1) _ (k0_off47_inb i k k0_h1) ![704, 0] inb_S1024x128_S32x128_704_0⟩,
    ⟨Rect.unit (k0_off45 k) S32x256.size (k0_off45_inb i k k0_h1), weightLoad arg3 arg4 arg5 arg12 X3 X4 X5 X12 _ (k0_off1_inb i k k0_h1) _ (k0_off44_inb i k k0_h1) _ (k0_off45_inb i k k0_h1) ![672, 0] inb_S1024x128_S32x128_672_0⟩,
    ⟨Rect.unit (k0_off43 k) S32x256.size (k0_off43_inb i k k0_h1), weightLoad arg3 arg4 arg5 arg12 X3 X4 X5 X12 _ (k0_off1_inb i k k0_h1) _ (k0_off42_inb i k k0_h1) _ (k0_off43_inb i k k0_h1) ![640, 0] inb_S1024x128_S32x128_640_0⟩,
    ⟨Rect.unit (k0_off41 k) S32x256.size (k0_off41_inb i k k0_h1), weightLoad arg3 arg4 arg5 arg12 X3 X4 X5 X12 _ (k0_off1_inb i k k0_h1) _ (k0_off40_inb i k k0_h1) _ (k0_off41_inb i k k0_h1) ![608, 0] inb_S1024x128_S32x128_608_0⟩,
    ⟨Rect.unit (k0_off39 k) S32x256.size (k0_off39_inb i k k0_h1), weightLoad arg3 arg4 arg5 arg12 X3 X4 X5 X12 _ (k0_off1_inb i k k0_h1) _ (k0_off38_inb i k k0_h1) _ (k0_off39_inb i k k0_h1) ![576, 0] inb_S1024x128_S32x128_576_0⟩,
    ⟨Rect.unit (k0_off37 k) S32x256.size (k0_off37_inb i k k0_h1), weightLoad arg3 arg4 arg5 arg12 X3 X4 X5 X12 _ (k0_off1_inb i k k0_h1) _ (k0_off36_inb i k k0_h1) _ (k0_off37_inb i k k0_h1) ![544, 0] inb_S1024x128_S32x128_544_0⟩,
    ⟨Rect.unit (k0_off35 k) S32x256.size (k0_off35_inb i k k0_h1), weightLoad arg3 arg4 arg5 arg12 X3 X4 X5 X12 _ (k0_off1_inb i k k0_h1) _ (k0_off34_inb i k k0_h1) _ (k0_off35_inb i k k0_h1) ![512, 0] inb_S1024x128_S32x128_512_0⟩,
    ⟨Rect.unit (k0_off33 k) S32x256.size (k0_off33_inb i k k0_h1), weightLoad arg3 arg4 arg5 arg12 X3 X4 X5 X12 _ (k0_off1_inb i k k0_h1) _ (k0_off32_inb i k k0_h1) _ (k0_off33_inb i k k0_h1) ![480, 0] inb_S1024x128_S32x128_480_0⟩,
    ⟨Rect.unit (k0_off31 k) S32x256.size (k0_off31_inb i k k0_h1), weightLoad arg3 arg4 arg5 arg12 X3 X4 X5 X12 _ (k0_off1_inb i k k0_h1) _ (k0_off30_inb i k k0_h1) _ (k0_off31_inb i k k0_h1) ![448, 0] inb_S1024x128_S32x128_448_0⟩,
    ⟨Rect.unit (k0_off29 k) S32x256.size (k0_off29_inb i k k0_h1), weightLoad arg3 arg4 arg5 arg12 X3 X4 X5 X12 _ (k0_off1_inb i k k0_h1) _ (k0_off28_inb i k k0_h1) _ (k0_off29_inb i k k0_h1) ![416, 0] inb_S1024x128_S32x128_416_0⟩,
    ⟨Rect.unit (k0_off27 k) S32x256.size (k0_off27_inb i k k0_h1), weightLoad arg3 arg4 arg5 arg12 X3 X4 X5 X12 _ (k0_off1_inb i k k0_h1) _ (k0_off26_inb i k k0_h1) _ (k0_off27_inb i k k0_h1) ![384, 0] inb_S1024x128_S32x128_384_0⟩,
    ⟨Rect.unit (k0_off25 k) S32x256.size (k0_off25_inb i k k0_h1), weightLoad arg3 arg4 arg5 arg12 X3 X4 X5 X12 _ (k0_off1_inb i k k0_h1) _ (k0_off24_inb i k k0_h1) _ (k0_off25_inb i k k0_h1) ![352, 0] inb_S1024x128_S32x128_352_0⟩,
    ⟨Rect.unit (k0_off23 k) S32x256.size (k0_off23_inb i k k0_h1), weightLoad arg3 arg4 arg5 arg12 X3 X4 X5 X12 _ (k0_off1_inb i k k0_h1) _ (k0_off22_inb i k k0_h1) _ (k0_off23_inb i k k0_h1) ![320, 0] inb_S1024x128_S32x128_320_0⟩,
    ⟨Rect.unit (k0_off21 k) S32x256.size (k0_off21_inb i k k0_h1), weightLoad arg3 arg4 arg5 arg12 X3 X4 X5 X12 _ (k0_off1_inb i k k0_h1) _ (k0_off20_inb i k k0_h1) _ (k0_off21_inb i k k0_h1) ![288, 0] inb_S1024x128_S32x128_288_0⟩,
    ⟨Rect.unit (k0_off19 k) S32x256.size (k0_off19_inb i k k0_h1), weightLoad arg3 arg4 arg5 arg12 X3 X4 X5 X12 _ (k0_off1_inb i k k0_h1) _ (k0_off18_inb i k k0_h1) _ (k0_off19_inb i k k0_h1) ![256, 0] inb_S1024x128_S32x128_256_0⟩,
    ⟨Rect.unit (k0_off17 k) S32x256.size (k0_off17_inb i k k0_h1), weightLoad arg3 arg4 arg5 arg12 X3 X4 X5 X12 _ (k0_off1_inb i k k0_h1) _ (k0_off16_inb i k k0_h1) _ (k0_off17_inb i k k0_h1) ![224, 0] inb_S1024x128_S32x128_224_0⟩,
    ⟨Rect.unit (k0_off15 k) S32x256.size (k0_off15_inb i k k0_h1), weightLoad arg3 arg4 arg5 arg12 X3 X4 X5 X12 _ (k0_off1_inb i k k0_h1) _ (k0_off14_inb i k k0_h1) _ (k0_off15_inb i k k0_h1) ![192, 0] inb_S1024x128_S32x128_192_0⟩,
    ⟨Rect.unit (k0_off13 k) S32x256.size (k0_off13_inb i k k0_h1), weightLoad arg3 arg4 arg5 arg12 X3 X4 X5 X12 _ (k0_off1_inb i k k0_h1) _ (k0_off12_inb i k k0_h1) _ (k0_off13_inb i k k0_h1) ![160, 0] inb_S1024x128_S32x128_160_0⟩,
    ⟨Rect.unit (k0_off11 k) S32x256.size (k0_off11_inb i k k0_h1), weightLoad arg3 arg4 arg5 arg12 X3 X4 X5 X12 _ (k0_off1_inb i k k0_h1) _ (k0_off10_inb i k k0_h1) _ (k0_off11_inb i k k0_h1) ![128, 0] inb_S1024x128_S32x128_128_0⟩,
    ⟨Rect.unit (k0_off9 k) S32x256.size (k0_off9_inb i k k0_h1), weightLoad arg3 arg4 arg5 arg12 X3 X4 X5 X12 _ (k0_off1_inb i k k0_h1) _ (k0_off8_inb i k k0_h1) _ (k0_off9_inb i k k0_h1) ![96, 0] inb_S1024x128_S32x128_96_0⟩,
    ⟨Rect.unit (k0_off7 k) S32x256.size (k0_off7_inb i k k0_h1), weightLoad arg3 arg4 arg5 arg12 X3 X4 X5 X12 _ (k0_off1_inb i k k0_h1) _ (k0_off6_inb i k k0_h1) _ (k0_off7_inb i k k0_h1) ![64, 0] inb_S1024x128_S32x128_64_0⟩,
    ⟨Rect.unit (k0_off5 k) S32x256.size (k0_off5_inb i k k0_h1), weightLoad arg3 arg4 arg5 arg12 X3 X4 X5 X12 _ (k0_off1_inb i k k0_h1) _ (k0_off4_inb i k k0_h1) _ (k0_off5_inb i k k0_h1) ![32, 0] inb_S1024x128_S32x128_32_0⟩,
    ⟨Rect.unit (k0_off3 k) S32x256.size (k0_off3_inb i k k0_h1), weightLoad arg3 arg4 arg5 arg12 X3 X4 X5 X12 _ (k0_off1_inb i k k0_h1) _ (k0_off2_inb i k k0_h1) _ (k0_off3_inb i k k0_h1) ![0, 0] inb_S1024x128_S32x128_0_0⟩] := by
  unfold trip_k0_t1
  rfl

end

/-! ## Where the trips' loads and stores lie -/

theorem off1_eq : ∀ k : Fin k0_t1_loop.trips, k0_off1 k = ![0, 256 * k.val] := by decide +kernel
theorem off2_eq : ∀ k : Fin k0_t1_loop.trips, k0_off2 k = ![0, 256 * k.val] := by decide +kernel
theorem off3_eq : ∀ k : Fin k0_t1_loop.trips, k0_off3 k = ![0, 256 * k.val] := by decide +kernel
theorem off4_eq : ∀ k : Fin k0_t1_loop.trips, k0_off4 k = ![1, 256 * k.val] := by decide +kernel
theorem off5_eq : ∀ k : Fin k0_t1_loop.trips, k0_off5 k = ![32, 256 * k.val] := by decide +kernel
theorem off6_eq : ∀ k : Fin k0_t1_loop.trips, k0_off6 k = ![2, 256 * k.val] := by decide +kernel
theorem off7_eq : ∀ k : Fin k0_t1_loop.trips, k0_off7 k = ![64, 256 * k.val] := by decide +kernel
theorem off8_eq : ∀ k : Fin k0_t1_loop.trips, k0_off8 k = ![3, 256 * k.val] := by decide +kernel
theorem off9_eq : ∀ k : Fin k0_t1_loop.trips, k0_off9 k = ![96, 256 * k.val] := by decide +kernel
theorem off10_eq : ∀ k : Fin k0_t1_loop.trips, k0_off10 k = ![4, 256 * k.val] := by decide +kernel
theorem off11_eq : ∀ k : Fin k0_t1_loop.trips, k0_off11 k = ![128, 256 * k.val] := by decide +kernel
theorem off12_eq : ∀ k : Fin k0_t1_loop.trips, k0_off12 k = ![5, 256 * k.val] := by decide +kernel
theorem off13_eq : ∀ k : Fin k0_t1_loop.trips, k0_off13 k = ![160, 256 * k.val] := by decide +kernel
theorem off14_eq : ∀ k : Fin k0_t1_loop.trips, k0_off14 k = ![6, 256 * k.val] := by decide +kernel
theorem off15_eq : ∀ k : Fin k0_t1_loop.trips, k0_off15 k = ![192, 256 * k.val] := by decide +kernel
theorem off16_eq : ∀ k : Fin k0_t1_loop.trips, k0_off16 k = ![7, 256 * k.val] := by decide +kernel
theorem off17_eq : ∀ k : Fin k0_t1_loop.trips, k0_off17 k = ![224, 256 * k.val] := by decide +kernel
theorem off18_eq : ∀ k : Fin k0_t1_loop.trips, k0_off18 k = ![8, 256 * k.val] := by decide +kernel
theorem off19_eq : ∀ k : Fin k0_t1_loop.trips, k0_off19 k = ![256, 256 * k.val] := by decide +kernel
theorem off20_eq : ∀ k : Fin k0_t1_loop.trips, k0_off20 k = ![9, 256 * k.val] := by decide +kernel
theorem off21_eq : ∀ k : Fin k0_t1_loop.trips, k0_off21 k = ![288, 256 * k.val] := by decide +kernel
theorem off22_eq : ∀ k : Fin k0_t1_loop.trips, k0_off22 k = ![10, 256 * k.val] := by decide +kernel
theorem off23_eq : ∀ k : Fin k0_t1_loop.trips, k0_off23 k = ![320, 256 * k.val] := by decide +kernel
theorem off24_eq : ∀ k : Fin k0_t1_loop.trips, k0_off24 k = ![11, 256 * k.val] := by decide +kernel
theorem off25_eq : ∀ k : Fin k0_t1_loop.trips, k0_off25 k = ![352, 256 * k.val] := by decide +kernel
theorem off26_eq : ∀ k : Fin k0_t1_loop.trips, k0_off26 k = ![12, 256 * k.val] := by decide +kernel
theorem off27_eq : ∀ k : Fin k0_t1_loop.trips, k0_off27 k = ![384, 256 * k.val] := by decide +kernel
theorem off28_eq : ∀ k : Fin k0_t1_loop.trips, k0_off28 k = ![13, 256 * k.val] := by decide +kernel
theorem off29_eq : ∀ k : Fin k0_t1_loop.trips, k0_off29 k = ![416, 256 * k.val] := by decide +kernel
theorem off30_eq : ∀ k : Fin k0_t1_loop.trips, k0_off30 k = ![14, 256 * k.val] := by decide +kernel
theorem off31_eq : ∀ k : Fin k0_t1_loop.trips, k0_off31 k = ![448, 256 * k.val] := by decide +kernel
theorem off32_eq : ∀ k : Fin k0_t1_loop.trips, k0_off32 k = ![15, 256 * k.val] := by decide +kernel
theorem off33_eq : ∀ k : Fin k0_t1_loop.trips, k0_off33 k = ![480, 256 * k.val] := by decide +kernel
theorem off34_eq : ∀ k : Fin k0_t1_loop.trips, k0_off34 k = ![16, 256 * k.val] := by decide +kernel
theorem off35_eq : ∀ k : Fin k0_t1_loop.trips, k0_off35 k = ![512, 256 * k.val] := by decide +kernel
theorem off36_eq : ∀ k : Fin k0_t1_loop.trips, k0_off36 k = ![17, 256 * k.val] := by decide +kernel
theorem off37_eq : ∀ k : Fin k0_t1_loop.trips, k0_off37 k = ![544, 256 * k.val] := by decide +kernel
theorem off38_eq : ∀ k : Fin k0_t1_loop.trips, k0_off38 k = ![18, 256 * k.val] := by decide +kernel
theorem off39_eq : ∀ k : Fin k0_t1_loop.trips, k0_off39 k = ![576, 256 * k.val] := by decide +kernel
theorem off40_eq : ∀ k : Fin k0_t1_loop.trips, k0_off40 k = ![19, 256 * k.val] := by decide +kernel
theorem off41_eq : ∀ k : Fin k0_t1_loop.trips, k0_off41 k = ![608, 256 * k.val] := by decide +kernel
theorem off42_eq : ∀ k : Fin k0_t1_loop.trips, k0_off42 k = ![20, 256 * k.val] := by decide +kernel
theorem off43_eq : ∀ k : Fin k0_t1_loop.trips, k0_off43 k = ![640, 256 * k.val] := by decide +kernel
theorem off44_eq : ∀ k : Fin k0_t1_loop.trips, k0_off44 k = ![21, 256 * k.val] := by decide +kernel
theorem off45_eq : ∀ k : Fin k0_t1_loop.trips, k0_off45 k = ![672, 256 * k.val] := by decide +kernel
theorem off46_eq : ∀ k : Fin k0_t1_loop.trips, k0_off46 k = ![22, 256 * k.val] := by decide +kernel
theorem off47_eq : ∀ k : Fin k0_t1_loop.trips, k0_off47 k = ![704, 256 * k.val] := by decide +kernel
theorem off48_eq : ∀ k : Fin k0_t1_loop.trips, k0_off48 k = ![23, 256 * k.val] := by decide +kernel
theorem off49_eq : ∀ k : Fin k0_t1_loop.trips, k0_off49 k = ![736, 256 * k.val] := by decide +kernel
theorem off50_eq : ∀ k : Fin k0_t1_loop.trips, k0_off50 k = ![24, 256 * k.val] := by decide +kernel
theorem off51_eq : ∀ k : Fin k0_t1_loop.trips, k0_off51 k = ![768, 256 * k.val] := by decide +kernel
theorem off52_eq : ∀ k : Fin k0_t1_loop.trips, k0_off52 k = ![25, 256 * k.val] := by decide +kernel
theorem off53_eq : ∀ k : Fin k0_t1_loop.trips, k0_off53 k = ![800, 256 * k.val] := by decide +kernel
theorem off54_eq : ∀ k : Fin k0_t1_loop.trips, k0_off54 k = ![26, 256 * k.val] := by decide +kernel
theorem off55_eq : ∀ k : Fin k0_t1_loop.trips, k0_off55 k = ![832, 256 * k.val] := by decide +kernel
theorem off56_eq : ∀ k : Fin k0_t1_loop.trips, k0_off56 k = ![27, 256 * k.val] := by decide +kernel
theorem off57_eq : ∀ k : Fin k0_t1_loop.trips, k0_off57 k = ![864, 256 * k.val] := by decide +kernel
theorem off58_eq : ∀ k : Fin k0_t1_loop.trips, k0_off58 k = ![28, 256 * k.val] := by decide +kernel
theorem off59_eq : ∀ k : Fin k0_t1_loop.trips, k0_off59 k = ![896, 256 * k.val] := by decide +kernel
theorem off60_eq : ∀ k : Fin k0_t1_loop.trips, k0_off60 k = ![29, 256 * k.val] := by decide +kernel
theorem off61_eq : ∀ k : Fin k0_t1_loop.trips, k0_off61 k = ![928, 256 * k.val] := by decide +kernel
theorem off62_eq : ∀ k : Fin k0_t1_loop.trips, k0_off62 k = ![30, 256 * k.val] := by decide +kernel
theorem off63_eq : ∀ k : Fin k0_t1_loop.trips, k0_off63 k = ![960, 256 * k.val] := by decide +kernel
theorem off64_eq : ∀ k : Fin k0_t1_loop.trips, k0_off64 k = ![31, 256 * k.val] := by decide +kernel
theorem off65_eq : ∀ k : Fin k0_t1_loop.trips, k0_off65 k = ![992, 256 * k.val] := by decide +kernel

/-- A block of 32 rows and 256 columns, element by element, is the block of the function of all rows and columns. -/
theorem weights_piece (arg3 : Memref sig .tc .vmem S128x5376 .bf16) (arg4 : Memref sig .tc .vmem S1024x5376 .fp8e4m3)
    (arg5 : Memref sig .tc .vmem S32x5376 .f32) (arg12 : Memref sig .tc .vmem S1024x128 .bf16)
    (X3 : BufTy.Contents (Elt Ideal) arg3.view.ty) (X4 : BufTy.Contents (Elt Ideal) arg4.view.ty) (X5 : BufTy.Contents (Elt Ideal) arg5.view.ty)
    (X12 : BufTy.Contents (Elt Ideal) arg12.view.ty) (g e k : ℕ) (hg : g < 32) (he : e = 32 * g) (hk : k < 21)
    (o1 : Fin 2 → ℕ) (inb1) (h1 : o1 = ![0, 256 * k]) (o2 : Fin 2 → ℕ) (inb2) (h2 : o2 = ![g, 256 * k])
    (o3 : Fin 2 → ℕ) (inb3) (h3 : o3 = ![e, 256 * k]) (inb4) (x : S32x256.Idx) :
    weightLoad (F := Ideal) arg3 arg4 arg5 arg12 X3 X4 X5 X12 o1 inb1 o2 inb2 o3 inb3 ![e, 0] inb4 x
      = (fun y : S1024x5376.Idx => pickAt (arg12.view.read (Elt Ideal) X12) (arg3.view.read (Elt Ideal) X3) (arg4.view.read (Elt Ideal) X4)
          (arg5.view.read (Elt Ideal) X5) (y 0) (y 1)) ((Rect.unit (s := S1024x5376) o3 S32x256.size inb3).emb x) := by
  subst h1 h2 h3 he
  obtain ⟨i, l, rfl⟩ : ∃ (i : Fin 32) (l : Fin 256), x = ix2 i l :=
    ⟨x 0, x 1, by funext a; match a with | ⟨0, _⟩ => rfl | ⟨1, _⟩ => rfl⟩
  have e0 : ((Rect.unit (s := S1024x5376) ![32 * g, 256 * k] S32x256.size inb3).emb (ix2 i l)) = ix2 (⟨32 * g + i.val, by omega⟩ : Fin 1024) (⟨256 * k + l.val, by omega⟩ : Fin 5376) := by
    funext a
    match a with
    | ⟨0, _⟩ => exact Fin.ext (Rect.idx_unit_val _ _ _ _ _)
    | ⟨1, _⟩ => exact Fin.ext (Rect.idx_unit_val _ _ _ _ _)
  rw [e0]
  unfold weightLoad
  rw [weightRows_apply]
  have r12 : ∀ m : Fin 128, arg12.view.readAt (Elt Ideal) (Rect.unit (s := S1024x128) ![32 * g, 0] S32x128.size inb4).toLoadRect X12 (ix2 i m)
      = arg12.view.read (Elt Ideal) X12 (ix2 (⟨32 * g + i.val, by omega⟩ : Fin 1024) m) := fun m =>
    View.ld_unit_apply_of (S := S1024x128) _ _ S32x128.size inb4 (ix2 i m) (ix2 (⟨32 * g + i.val, by omega⟩ : Fin 1024) m)
      (fun a => by match a with | ⟨0, _⟩ => rfl | ⟨1, _⟩ => exact (Nat.zero_add _).symm)
  have r3 : ∀ m : Fin 128, arg3.view.readAt (Elt Ideal) (Rect.unit (s := S128x5376) ![0, 256 * k] S128x256.size inb1).toLoadRect X3 (ix2 m l)
      = arg3.view.read (Elt Ideal) X3 (ix2 m (⟨256 * k + l.val, by omega⟩ : Fin 5376)) := fun m =>
    View.ld_unit_apply_of (S := S128x5376) _ _ S128x256.size inb1 (ix2 m l) (ix2 m (⟨256 * k + l.val, by omega⟩ : Fin 5376))
      (fun a => by match a with | ⟨0, _⟩ => exact (Nat.zero_add _).symm | ⟨1, _⟩ => rfl)
  have r5 : arg5.view.readAt (Elt Ideal) (Rect.unit (s := S32x5376) ![g, 256 * k] S1x256.size inb2).toLoadRect X5 (ix2 (0 : Fin 1) l)
      = arg5.view.read (Elt Ideal) X5 (ix2 (⟨g, hg⟩ : Fin 32) (⟨256 * k + l.val, by omega⟩ : Fin 5376)) :=
    View.ld_unit_apply_of (S := S32x5376) _ _ S1x256.size inb2 (ix2 (0 : Fin 1) l) (ix2 (⟨g, hg⟩ : Fin 32) (⟨256 * k + l.val, by omega⟩ : Fin 5376))
      (fun a => by match a with | ⟨0, _⟩ => rfl | ⟨1, _⟩ => rfl)
  have r4 : arg4.view.readAt (Elt Ideal) (Rect.unit (s := S1024x5376) ![32 * g, 256 * k] S32x256.size inb3).toLoadRect X4 (ix2 i l)
      = arg4.view.read (Elt Ideal) X4 (ix2 (⟨32 * g + i.val, by omega⟩ : Fin 1024) (⟨256 * k + l.val, by omega⟩ : Fin 5376)) :=
    View.ld_unit_apply_of (S := S1024x5376) _ _ S32x256.size inb3 (ix2 i l) (ix2 (⟨32 * g + i.val, by omega⟩ : Fin 1024) (⟨256 * k + l.val, by omega⟩ : Fin 5376))
      (fun a => by match a with | ⟨0, _⟩ => rfl | ⟨1, _⟩ => rfl)
  simp only [r12, r3, r4, r5]
  unfold pickAt
  have eg : (⟨(32 * g + i.val) / 32, by omega⟩ : Fin 32) = ⟨g, hg⟩ := Fin.ext (by show (32 * g + i.val) / 32 = g; omega)
  show _ = (if ∃ m : Fin 128, _ then _ else _ * arg5.view.read (Elt Ideal) X5 (ix2 (⟨(32 * g + i.val) / 32, _⟩ : Fin 32) _))
  rw [eg]

/-- Every store of one trip is a block of one function of all rows and columns. -/
theorem trip_weights_of (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole) (k0_h1 : k0_cond1 i = 1#1) (X3 : BufTy.Contents (Elt Ideal) arg3.view.ty)
  (X4 : BufTy.Contents (Elt Ideal) arg4.view.ty) (X5 : BufTy.Contents (Elt Ideal) arg5.view.ty) (X12 : BufTy.Contents (Elt Ideal) arg12.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X3 X4 X5 X12 k).1, ∀ x, p.2 x = (fun y : S1024x5376.Idx => pickAt (arg12.view.read (Elt Ideal) X12) (arg3.view.read (Elt Ideal) X3) (arg4.view.read (Elt Ideal) X4) (arg5.view.read (Elt Ideal) X5) (y 0) (y 1)) (p.1.emb x) := by
  have hk : k.val < 21 := k.isLt
  rw [trip_weights]
  refine View.PiecesOf.mem (Val := Elt Ideal) (e := .bf16) (G := (fun y : S1024x5376.Idx => pickAt (arg12.view.read (Elt Ideal) X12) (arg3.view.read (Elt Ideal) X3) (arg4.view.read (Elt Ideal) X4) (arg5.view.read (Elt Ideal) X5) (y 0) (y 1))) ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact weights_piece arg3 arg4 arg5 arg12 X3 X4 X5 X12 31 992 k.val (by decide) (by decide) hk _ (k0_off1_inb i k k0_h1) (off1_eq k) _ (k0_off64_inb i k k0_h1) (off64_eq k) _ (k0_off65_inb i k k0_h1) (off65_eq k) inb_S1024x128_S32x128_992_0
  · exact weights_piece arg3 arg4 arg5 arg12 X3 X4 X5 X12 30 960 k.val (by decide) (by decide) hk _ (k0_off1_inb i k k0_h1) (off1_eq k) _ (k0_off62_inb i k k0_h1) (off62_eq k) _ (k0_off63_inb i k k0_h1) (off63_eq k) inb_S1024x128_S32x128_960_0
  · exact weights_piece arg3 arg4 arg5 arg12 X3 X4 X5 X12 29 928 k.val (by decide) (by decide) hk _ (k0_off1_inb i k k0_h1) (off1_eq k) _ (k0_off60_inb i k k0_h1) (off60_eq k) _ (k0_off61_inb i k k0_h1) (off61_eq k) inb_S1024x128_S32x128_928_0
  · exact weights_piece arg3 arg4 arg5 arg12 X3 X4 X5 X12 28 896 k.val (by decide) (by decide) hk _ (k0_off1_inb i k k0_h1) (off1_eq k) _ (k0_off58_inb i k k0_h1) (off58_eq k) _ (k0_off59_inb i k k0_h1) (off59_eq k) inb_S1024x128_S32x128_896_0
  · exact weights_piece arg3 arg4 arg5 arg12 X3 X4 X5 X12 27 864 k.val (by decide) (by decide) hk _ (k0_off1_inb i k k0_h1) (off1_eq k) _ (k0_off56_inb i k k0_h1) (off56_eq k) _ (k0_off57_inb i k k0_h1) (off57_eq k) inb_S1024x128_S32x128_864_0
  · exact weights_piece arg3 arg4 arg5 arg12 X3 X4 X5 X12 26 832 k.val (by decide) (by decide) hk _ (k0_off1_inb i k k0_h1) (off1_eq k) _ (k0_off54_inb i k k0_h1) (off54_eq k) _ (k0_off55_inb i k k0_h1) (off55_eq k) inb_S1024x128_S32x128_832_0
  · exact weights_piece arg3 arg4 arg5 arg12 X3 X4 X5 X12 25 800 k.val (by decide) (by decide) hk _ (k0_off1_inb i k k0_h1) (off1_eq k) _ (k0_off52_inb i k k0_h1) (off52_eq k) _ (k0_off53_inb i k k0_h1) (off53_eq k) inb_S1024x128_S32x128_800_0
  · exact weights_piece arg3 arg4 arg5 arg12 X3 X4 X5 X12 24 768 k.val (by decide) (by decide) hk _ (k0_off1_inb i k k0_h1) (off1_eq k) _ (k0_off50_inb i k k0_h1) (off50_eq k) _ (k0_off51_inb i k k0_h1) (off51_eq k) inb_S1024x128_S32x128_768_0
  · exact weights_piece arg3 arg4 arg5 arg12 X3 X4 X5 X12 23 736 k.val (by decide) (by decide) hk _ (k0_off1_inb i k k0_h1) (off1_eq k) _ (k0_off48_inb i k k0_h1) (off48_eq k) _ (k0_off49_inb i k k0_h1) (off49_eq k) inb_S1024x128_S32x128_736_0
  · exact weights_piece arg3 arg4 arg5 arg12 X3 X4 X5 X12 22 704 k.val (by decide) (by decide) hk _ (k0_off1_inb i k k0_h1) (off1_eq k) _ (k0_off46_inb i k k0_h1) (off46_eq k) _ (k0_off47_inb i k k0_h1) (off47_eq k) inb_S1024x128_S32x128_704_0
  · exact weights_piece arg3 arg4 arg5 arg12 X3 X4 X5 X12 21 672 k.val (by decide) (by decide) hk _ (k0_off1_inb i k k0_h1) (off1_eq k) _ (k0_off44_inb i k k0_h1) (off44_eq k) _ (k0_off45_inb i k k0_h1) (off45_eq k) inb_S1024x128_S32x128_672_0
  · exact weights_piece arg3 arg4 arg5 arg12 X3 X4 X5 X12 20 640 k.val (by decide) (by decide) hk _ (k0_off1_inb i k k0_h1) (off1_eq k) _ (k0_off42_inb i k k0_h1) (off42_eq k) _ (k0_off43_inb i k k0_h1) (off43_eq k) inb_S1024x128_S32x128_640_0
  · exact weights_piece arg3 arg4 arg5 arg12 X3 X4 X5 X12 19 608 k.val (by decide) (by decide) hk _ (k0_off1_inb i k k0_h1) (off1_eq k) _ (k0_off40_inb i k k0_h1) (off40_eq k) _ (k0_off41_inb i k k0_h1) (off41_eq k) inb_S1024x128_S32x128_608_0
  · exact weights_piece arg3 arg4 arg5 arg12 X3 X4 X5 X12 18 576 k.val (by decide) (by decide) hk _ (k0_off1_inb i k k0_h1) (off1_eq k) _ (k0_off38_inb i k k0_h1) (off38_eq k) _ (k0_off39_inb i k k0_h1) (off39_eq k) inb_S1024x128_S32x128_576_0
  · exact weights_piece arg3 arg4 arg5 arg12 X3 X4 X5 X12 17 544 k.val (by decide) (by decide) hk _ (k0_off1_inb i k k0_h1) (off1_eq k) _ (k0_off36_inb i k k0_h1) (off36_eq k) _ (k0_off37_inb i k k0_h1) (off37_eq k) inb_S1024x128_S32x128_544_0
  · exact weights_piece arg3 arg4 arg5 arg12 X3 X4 X5 X12 16 512 k.val (by decide) (by decide) hk _ (k0_off1_inb i k k0_h1) (off1_eq k) _ (k0_off34_inb i k k0_h1) (off34_eq k) _ (k0_off35_inb i k k0_h1) (off35_eq k) inb_S1024x128_S32x128_512_0
  · exact weights_piece arg3 arg4 arg5 arg12 X3 X4 X5 X12 15 480 k.val (by decide) (by decide) hk _ (k0_off1_inb i k k0_h1) (off1_eq k) _ (k0_off32_inb i k k0_h1) (off32_eq k) _ (k0_off33_inb i k k0_h1) (off33_eq k) inb_S1024x128_S32x128_480_0
  · exact weights_piece arg3 arg4 arg5 arg12 X3 X4 X5 X12 14 448 k.val (by decide) (by decide) hk _ (k0_off1_inb i k k0_h1) (off1_eq k) _ (k0_off30_inb i k k0_h1) (off30_eq k) _ (k0_off31_inb i k k0_h1) (off31_eq k) inb_S1024x128_S32x128_448_0
  · exact weights_piece arg3 arg4 arg5 arg12 X3 X4 X5 X12 13 416 k.val (by decide) (by decide) hk _ (k0_off1_inb i k k0_h1) (off1_eq k) _ (k0_off28_inb i k k0_h1) (off28_eq k) _ (k0_off29_inb i k k0_h1) (off29_eq k) inb_S1024x128_S32x128_416_0
  · exact weights_piece arg3 arg4 arg5 arg12 X3 X4 X5 X12 12 384 k.val (by decide) (by decide) hk _ (k0_off1_inb i k k0_h1) (off1_eq k) _ (k0_off26_inb i k k0_h1) (off26_eq k) _ (k0_off27_inb i k k0_h1) (off27_eq k) inb_S1024x128_S32x128_384_0
  · exact weights_piece arg3 arg4 arg5 arg12 X3 X4 X5 X12 11 352 k.val (by decide) (by decide) hk _ (k0_off1_inb i k k0_h1) (off1_eq k) _ (k0_off24_inb i k k0_h1) (off24_eq k) _ (k0_off25_inb i k k0_h1) (off25_eq k) inb_S1024x128_S32x128_352_0
  · exact weights_piece arg3 arg4 arg5 arg12 X3 X4 X5 X12 10 320 k.val (by decide) (by decide) hk _ (k0_off1_inb i k k0_h1) (off1_eq k) _ (k0_off22_inb i k k0_h1) (off22_eq k) _ (k0_off23_inb i k k0_h1) (off23_eq k) inb_S1024x128_S32x128_320_0
  · exact weights_piece arg3 arg4 arg5 arg12 X3 X4 X5 X12 9 288 k.val (by decide) (by decide) hk _ (k0_off1_inb i k k0_h1) (off1_eq k) _ (k0_off20_inb i k k0_h1) (off20_eq k) _ (k0_off21_inb i k k0_h1) (off21_eq k) inb_S1024x128_S32x128_288_0
  · exact weights_piece arg3 arg4 arg5 arg12 X3 X4 X5 X12 8 256 k.val (by decide) (by decide) hk _ (k0_off1_inb i k k0_h1) (off1_eq k) _ (k0_off18_inb i k k0_h1) (off18_eq k) _ (k0_off19_inb i k k0_h1) (off19_eq k) inb_S1024x128_S32x128_256_0
  · exact weights_piece arg3 arg4 arg5 arg12 X3 X4 X5 X12 7 224 k.val (by decide) (by decide) hk _ (k0_off1_inb i k k0_h1) (off1_eq k) _ (k0_off16_inb i k k0_h1) (off16_eq k) _ (k0_off17_inb i k k0_h1) (off17_eq k) inb_S1024x128_S32x128_224_0
  · exact weights_piece arg3 arg4 arg5 arg12 X3 X4 X5 X12 6 192 k.val (by decide) (by decide) hk _ (k0_off1_inb i k k0_h1) (off1_eq k) _ (k0_off14_inb i k k0_h1) (off14_eq k) _ (k0_off15_inb i k k0_h1) (off15_eq k) inb_S1024x128_S32x128_192_0
  · exact weights_piece arg3 arg4 arg5 arg12 X3 X4 X5 X12 5 160 k.val (by decide) (by decide) hk _ (k0_off1_inb i k k0_h1) (off1_eq k) _ (k0_off12_inb i k k0_h1) (off12_eq k) _ (k0_off13_inb i k k0_h1) (off13_eq k) inb_S1024x128_S32x128_160_0
  · exact weights_piece arg3 arg4 arg5 arg12 X3 X4 X5 X12 4 128 k.val (by decide) (by decide) hk _ (k0_off1_inb i k k0_h1) (off1_eq k) _ (k0_off10_inb i k k0_h1) (off10_eq k) _ (k0_off11_inb i k k0_h1) (off11_eq k) inb_S1024x128_S32x128_128_0
  · exact weights_piece arg3 arg4 arg5 arg12 X3 X4 X5 X12 3 96 k.val (by decide) (by decide) hk _ (k0_off1_inb i k k0_h1) (off1_eq k) _ (k0_off8_inb i k k0_h1) (off8_eq k) _ (k0_off9_inb i k k0_h1) (off9_eq k) inb_S1024x128_S32x128_96_0
  · exact weights_piece arg3 arg4 arg5 arg12 X3 X4 X5 X12 2 64 k.val (by decide) (by decide) hk _ (k0_off1_inb i k k0_h1) (off1_eq k) _ (k0_off6_inb i k k0_h1) (off6_eq k) _ (k0_off7_inb i k k0_h1) (off7_eq k) inb_S1024x128_S32x128_64_0
  · exact weights_piece arg3 arg4 arg5 arg12 X3 X4 X5 X12 1 32 k.val (by decide) (by decide) hk _ (k0_off1_inb i k k0_h1) (off1_eq k) _ (k0_off4_inb i k k0_h1) (off4_eq k) _ (k0_off5_inb i k k0_h1) (off5_eq k) inb_S1024x128_S32x128_32_0
  · exact weights_piece arg3 arg4 arg5 arg12 X3 X4 X5 X12 0 0 k.val (by decide) (by decide) hk _ (k0_off1_inb i k k0_h1) (off1_eq k) _ (k0_off2_inb i k k0_h1) (off2_eq k) _ (k0_off3_inb i k k0_h1) (off3_eq k) inb_S1024x128_S32x128_0_0

/-- Every store of the first `n` trips is a block of one function of all rows and columns. -/
theorem loop_weights_of (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole) (k0_h1 : k0_cond1 i = 1#1) (X3 : BufTy.Contents (Elt Ideal) arg3.view.ty)
  (X4 : BufTy.Contents (Elt Ideal) arg4.view.ty) (X5 : BufTy.Contents (Elt Ideal) arg5.view.ty) (X12 : BufTy.Contents (Elt Ideal) arg12.view.ty) (n : ℕ) (hn : n ≤ 21) :
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X3 X4 X5 X12 n, ∀ x, p.2 x = (fun y : S1024x5376.Idx => pickAt (arg12.view.read (Elt Ideal) X12) (arg3.view.read (Elt Ideal) X3) (arg4.view.read (Elt Ideal) X4) (arg5.view.read (Elt Ideal) X5) (y 0) (y 1)) (p.1.emb x) := by
  induction n with
  | zero => intro p hp; exact absurd hp List.not_mem_nil
  | succ n ih =>
    intro p hp
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X3 X4 X5 X12 ⟨n, hn⟩] at hp
    rcases List.mem_append.mp hp with h | h
    · exact trip_weights_of 𝒱 c bd i arg1 harg1 arg2 harg2 arg3 harg3 arg4 harg4 arg5 harg5 arg6 harg6 arg7 harg7 arg8 harg8 arg9 harg9 arg10 harg10 arg11 harg11 arg12 harg12 k0_h1 X3 X4 X5 X12 ⟨n, hn⟩ p h
    · exact ih (by omega) p h

/-- The block of 32 rows an element of the trip's columns lies in is one of its stores. -/
theorem trip_weights_covers (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole) (k0_h1 : k0_cond1 i = 1#1) (X3 : BufTy.Contents (Elt Ideal) arg3.view.ty)
  (X4 : BufTy.Contents (Elt Ideal) arg4.view.ty) (X5 : BufTy.Contents (Elt Ideal) arg5.view.ty) (X12 : BufTy.Contents (Elt Ideal) arg12.view.ty) (k : Fin k0_t1_loop.trips) (y : S1024x5376.Idx)
    (hy : (y 1).val / 256 = k.val) : ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X3 X4 X5 X12 k).1, y ∈ p.1.set := by
  have h0 : (y 0).val < 1024 := (y 0).isLt
  have hk : k.val < 21 := k.isLt
  have key : ∀ (off : Fin 2 → ℕ) (inb) (e : ℕ), off = ![e, 256 * k.val] → e ≤ (y 0).val → (y 0).val < e + 32 →
      y ∈ (Rect.unit (s := S1024x5376) off S32x256.size inb).set := by
    intro off inb e ho h2 h3
    subst ho
    rw [Rect.mem_set_unit]; intro a
    match a with
    | ⟨0, _⟩ => exact ⟨h2, h3⟩
    | ⟨1, _⟩ => exact ⟨by show 256 * k.val ≤ (y 1).val; omega, by show (y 1).val < 256 * k.val + 256; omega⟩
  rw [trip_weights]
  obtain h | h | h | h | h | h | h | h | h | h | h | h | h | h | h | h | h | h | h | h | h | h | h | h | h | h | h | h | h | h | h | h : (y 0).val / 32 = 0 ∨ (y 0).val / 32 = 1 ∨ (y 0).val / 32 = 2 ∨ (y 0).val / 32 = 3 ∨ (y 0).val / 32 = 4 ∨ (y 0).val / 32 = 5 ∨ (y 0).val / 32 = 6 ∨ (y 0).val / 32 = 7 ∨ (y 0).val / 32 = 8 ∨ (y 0).val / 32 = 9 ∨ (y 0).val / 32 = 10 ∨ (y 0).val / 32 = 11 ∨ (y 0).val / 32 = 12 ∨ (y 0).val / 32 = 13 ∨ (y 0).val / 32 = 14 ∨ (y 0).val / 32 = 15 ∨ (y 0).val / 32 = 16 ∨ (y 0).val / 32 = 17 ∨ (y 0).val / 32 = 18 ∨ (y 0).val / 32 = 19 ∨ (y 0).val / 32 = 20 ∨ (y 0).val / 32 = 21 ∨ (y 0).val / 32 = 22 ∨ (y 0).val / 32 = 23 ∨ (y 0).val / 32 = 24 ∨ (y 0).val / 32 = 25 ∨ (y 0).val / 32 = 26 ∨ (y 0).val / 32 = 27 ∨ (y 0).val / 32 = 28 ∨ (y 0).val / 32 = 29 ∨ (y 0).val / 32 = 30 ∨ (y 0).val / 32 = 31 := by omega
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), key _ (k0_off3_inb i k k0_h1) 0 (off3_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), key _ (k0_off5_inb i k k0_h1) 32 (off5_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), key _ (k0_off7_inb i k k0_h1) 64 (off7_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), key _ (k0_off9_inb i k k0_h1) 96 (off9_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), key _ (k0_off11_inb i k k0_h1) 128 (off11_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), key _ (k0_off13_inb i k k0_h1) 160 (off13_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), key _ (k0_off15_inb i k k0_h1) 192 (off15_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), key _ (k0_off17_inb i k k0_h1) 224 (off17_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), key _ (k0_off19_inb i k k0_h1) 256 (off19_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), key _ (k0_off21_inb i k k0_h1) 288 (off21_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), key _ (k0_off23_inb i k k0_h1) 320 (off23_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), key _ (k0_off25_inb i k k0_h1) 352 (off25_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), key _ (k0_off27_inb i k k0_h1) 384 (off27_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), key _ (k0_off29_inb i k k0_h1) 416 (off29_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), key _ (k0_off31_inb i k k0_h1) 448 (off31_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), key _ (k0_off33_inb i k k0_h1) 480 (off33_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), key _ (k0_off35_inb i k k0_h1) 512 (off35_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), key _ (k0_off37_inb i k k0_h1) 544 (off37_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), key _ (k0_off39_inb i k k0_h1) 576 (off39_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), key _ (k0_off41_inb i k k0_h1) 608 (off41_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), key _ (k0_off43_inb i k k0_h1) 640 (off43_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key _ (k0_off45_inb i k k0_h1) 672 (off45_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key _ (k0_off47_inb i k k0_h1) 704 (off47_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), key _ (k0_off49_inb i k k0_h1) 736 (off49_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key _ (k0_off51_inb i k k0_h1) 768 (off51_eq k) (by omega) (by omega)⟩
  · exact ⟨_, List.mem_cons_of_mem _ (List.mem_cons_of_mem _ (List.mem_cons_of_mem _ (List.mem_cons_of_mem _ (List.mem_cons_of_mem _ (List.mem_cons_of_mem _ (List.mem_cons_self)))))), key _ (k0_off53_inb i k k0_h1) 800 (off53_eq k) (by omega) (by omega)⟩
  · exact ⟨_, List.mem_cons_of_mem _ (List.mem_cons_of_mem _ (List.mem_cons_of_mem _ (List.mem_cons_of_mem _ (List.mem_cons_of_mem _ (List.mem_cons_self))))), key _ (k0_off55_inb i k k0_h1) 832 (off55_eq k) (by omega) (by omega)⟩
  · exact ⟨_, List.mem_cons_of_mem _ (List.mem_cons_of_mem _ (List.mem_cons_of_mem _ (List.mem_cons_of_mem _ (List.mem_cons_self)))), key _ (k0_off57_inb i k k0_h1) 864 (off57_eq k) (by omega) (by omega)⟩
  · exact ⟨_, List.mem_cons_of_mem _ (List.mem_cons_of_mem _ (List.mem_cons_of_mem _ (List.mem_cons_self))), key _ (k0_off59_inb i k k0_h1) 896 (off59_eq k) (by omega) (by omega)⟩
  · exact ⟨_, List.mem_cons_of_mem _ (List.mem_cons_of_mem _ (List.mem_cons_self)), key _ (k0_off61_inb i k k0_h1) 928 (off61_eq k) (by omega) (by omega)⟩
  · exact ⟨_, List.mem_cons_of_mem _ (List.mem_cons_self), key _ (k0_off63_inb i k k0_h1) 960 (off63_eq k) (by omega) (by omega)⟩
  · exact ⟨_, List.mem_cons_self, key _ (k0_off65_inb i k k0_h1) 992 (off65_eq k) (by omega) (by omega)⟩

/-- Every element of the first `n` trips' columns lies in one of their stores. -/
theorem loop_weights_covers (𝒱 : Variants) (c : Dev nD) (bd : Option 𝒱.V) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole) (k0_h1 : k0_cond1 i = 1#1) (X3 : BufTy.Contents (Elt Ideal) arg3.view.ty)
  (X4 : BufTy.Contents (Elt Ideal) arg4.view.ty) (X5 : BufTy.Contents (Elt Ideal) arg5.view.ty) (X12 : BufTy.Contents (Elt Ideal) arg12.view.ty) (n : ℕ) (hn : n ≤ 21) (y : S1024x5376.Idx)
    (hy : (y 1).val / 256 < n) : ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X3 X4 X5 X12 n, y ∈ p.1.set := by
  induction n with
  | zero => exact absurd hy (Nat.not_lt_zero _)
  | succ n ih =>
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X3 X4 X5 X12 ⟨n, hn⟩]
    by_cases h : (y 1).val / 256 = n
    · obtain ⟨p, hp, hm⟩ := trip_weights_covers 𝒱 c bd i arg1 harg1 arg2 harg2 arg3 harg3 arg4 harg4 arg5 harg5 arg6 harg6 arg7 harg7 arg8 harg8 arg9 harg9 arg10 harg10 arg11 harg11 arg12 harg12 k0_h1 X3 X4 X5 X12 ⟨n, hn⟩ y h
      exact ⟨p, List.mem_append_left _ hp, hm⟩
    · obtain ⟨p, hp, hm⟩ := ih (by omega) (by omega)
      exact ⟨p, List.mem_append_right _ hp, hm⟩

end Cert.Prep

end
-- ==== Proof.Out.lean ====
/- What one grid point leaves in its output blocks and in the scratch it prepares: the stores of both loops and of the 21
   products, read back as functions of the blocks the point was given. -/
module

public import proofs.«01_k».proof.Proof.QuantBlock
public import proofs.«01_k».proof.Proof.PrepTrip

@[expose] public section

set_option maxRecDepth 8192

noncomputable section

namespace Cert.Point

open Idealize.ShloMosaic Idealize.ShloMosaic.TcCoe Idealize.ShloMosaic.ValueIdx Idealize.SL.Sem
open Cert.KernelIdeal Cert.KernelIdeal.Gen Cert.Quant Cert.Prep

/-- The rows of the mixed operand times the columns of the prepared weights, summed over the channels. -/
def rowDot (M : Fin 512 → Fin 1024 → EReal) (W : S1024x5376.Idx → EReal) (y : S512x5376.Idx) : EReal :=
  ∑ d : Fin 1024, M (y 0) d * W (ix2 d (y 1))

/-- One product of a block of rows with 256 columns of the weights. -/
def product (a : FVec Ideal S512x1024 .bf16) (b : FVec Ideal S1024x256 .bf16) : FVec Ideal S512x256 .bf16 :=
  k0_pay4 (F := Ideal) a b

theorem dot_block : dot_S512x1024_S1024x256_S512x256_1_0_0_1_n_n = DotDims.plain 512 1024 256 := rfl

theorem product_apply (a : FVec Ideal S512x1024 .bf16) (b : FVec Ideal S1024x256 .bf16) (r : Fin 512) (n : Fin 256) :
    product a b (ix2 r n) = ∑ d : Fin 1024, a (ix2 r d) * b (ix2 d n) := by
  show FloatOps.matmul (F := Ideal) dot_S512x1024_S1024x256_S512x256_1_0_0_1_n_n none a b (constant S512x256 .f32 0x00000000#32) (ix2 r n) = _
  rw [dot_block, Ideal.matmul_plain_apply]
  show Ideal.ofBits .f32 0x00000000#32 + _ = _
  rw [Ideal.ofBits_zero_f32, zero_add]

/-- A product of the mixed operand with the columns from `o` on is that block of columns of `rowDot`. -/
theorem product_piece (M : Fin 512 → Fin 1024 → EReal) (W : S1024x5376.Idx → EReal) (a : FVec Ideal S512x1024 .bf16) (b : FVec Ideal S1024x256 .bf16)
    (o : ℕ) (inbw : ∀ k, ![0, o] k + S1024x256.size k ≤ S1024x5376.size k) (inb : ∀ k, ![0, o] k + S512x256.size k ≤ S512x5376.size k)
    (ha : a = fun x => M (x 0) (x 1)) (hb : b = fun x => W ((Rect.unit (s := S1024x5376) ![0, o] S1024x256.size inbw).toLoadRect.idx x))
    (x : S512x256.Idx) :
    product a b x = rowDot M W ((Rect.unit (s := S512x5376) ![0, o] S512x256.size inb).emb x) := by
  obtain ⟨r, n, rfl⟩ : ∃ (r : Fin 512) (n : Fin 256), x = ix2 r n := ⟨x 0, x 1, eta2 x⟩
  rw [product_apply]
  subst ha hb
  have e0 : (Rect.unit (s := S512x5376) ![0, o] S512x256.size inb).emb (ix2 r n) 0 = r :=
    Fin.ext ((Rect.idx_unit_val _ _ _ _ _).trans (Nat.zero_add _))
  have e1 : ((Rect.unit (s := S512x5376) ![0, o] S512x256.size inb).emb (ix2 r n) 1).val = o + n.val := Rect.idx_unit_val _ _ _ _ _
  unfold rowDot
  refine Finset.sum_congr rfl fun d _ => ?_
  rw [e0]
  refine congrArg (fun z => M r d * W z) (funext fun k => Fin.ext ?_)
  refine Fin.cases ?_ (fun k => ?_) k
  · exact (Rect.idx_unit_val _ _ _ _ _).trans (Nat.zero_add _)
  · refine Fin.cases ?_ (fun k => k.elim0) k
    exact (Rect.idx_unit_val _ _ _ _ _).trans e1.symm

/-- A load of a whole array reads it. -/
theorem whole_idx2 {m n : ℕ} (inb : ∀ k, ![0, 0] k + (⟨2, ![m, n]⟩ : Shape).size k ≤ (⟨2, ![m, n]⟩ : Shape).size k) (x : (⟨2, ![m, n]⟩ : Shape).Idx) :
    (Rect.unit (s := ⟨2, ![m, n]⟩) ![0, 0] (⟨2, ![m, n]⟩ : Shape).size inb).toLoadRect.idx x = x := by
  funext k
  refine Fin.ext ((Rect.idx_unit_val _ _ _ _ _).trans ?_)
  refine Fin.cases ?_ (fun k => ?_) k
  · exact Nat.zero_add _
  · refine Fin.cases ?_ (fun k => k.elim0) k
    exact Nat.zero_add _

theorem zero_zero : (![0, 0] : Fin 2 → ℕ) = fun _ => 0 := by decide

/-- A load of the whole mixed operand after the loop reads the loop's function. -/
theorem mixed_read (L : List (View.Piece (Elt Ideal) S512x1024 .bf16)) (M : Fin 512 → Fin 1024 → EReal)
    (h : ∀ p ∈ L, ∀ x, p.2 x = (fun y : S512x1024.Idx => M (y 0) (y 1)) (p.1.emb x))
    (hm : ∀ y : S512x1024.Idx, (y 0).val / 32 < 16 → ∃ p ∈ L, y ∈ p.1.set) (arg10 : Memref sig .tc .vmem S512x1024 .bf16) :
    arg10.view.readCov L (Rect.unit (s := S512x1024) ![0, 0] S512x1024.size inb_S512x1024_S512x1024_0_0).toLoadRect = fun x => M (x 0) (x 1) := by
  rw [View.readCov_eq_canon']
  funext x
  refine (congrArg (View.canon L) (whole_idx2 _ x)).trans ?_
  have hx : (x 0).val < 512 := (x 0).isLt
  exact View.canon_apply_of_pieces (fun y : S512x1024.Idx => M (y 0) (y 1)) L h x (hm x (by omega))

/-- A load of the prepared weights after the loop reads the loop's function. -/
theorem weights_read (arg9 : Memref sig .tc .vmem S1024x5376 .bf16) (W : S1024x5376.Idx → EReal) (L : List (View.Piece (Elt Ideal) S1024x5376 .bf16))
    (h : ∀ p ∈ L, ∀ x, p.2 x = W (p.1.emb x)) (hm : ∀ y : S1024x5376.Idx, (y 1).val / 256 < 21 → ∃ p ∈ L, y ∈ p.1.set) (o : ℕ)
    (inbw : ∀ k, ![0, o] k + S1024x256.size k ≤ S1024x5376.size k) :
    arg9.view.readCov L (Rect.unit (s := S1024x5376) ![0, o] S1024x256.size inbw).toLoadRect =
      fun x => W ((Rect.unit (s := S1024x5376) ![0, o] S1024x256.size inbw).toLoadRect.idx x) := by
  rw [View.readCov_eq_canon']
  funext x
  generalize hz : (Rect.unit (s := S1024x5376) ![0, o] S1024x256.size inbw).toLoadRect.idx x = z
  have hx : (z 1).val < 5376 := (z 1).isLt
  exact View.canon_apply_of_pieces W L h z (hm z (by omega))

theorem indices_read (arg1 : Memref sig .tc .vmem S1x128 .i32) (harg1 : arg1.IsWhole) (x0 : Vec Ideal S1x128 .i32) :
    View.readAt (Elt Ideal) arg1.view (Rect.unit (s := S1x128) ![0, 0] S1x128.size inb_S1x128_S1x128_0_0).toLoadRect (harg1.unread x0) = x0 := by
  funext x
  rw [View.readAt_apply, harg1.read_unread]
  exact congrArg x0 (whole_idx2 _ x)

variable (c : Dev nD) (i : grid0.Coords) (arg1 : Memref sig .tc .vmem S1x128 .i32) (harg1 : arg1.IsWhole) (arg2 : Memref sig .tc .vmem S512x1024 .bf16) (harg2 : arg2.IsWhole)
  (arg3 : Memref sig .tc .vmem S128x5376 .bf16) (harg3 : arg3.IsWhole) (arg4 : Memref sig .tc .vmem S1024x5376 .fp8e4m3) (harg4 : arg4.IsWhole)
  (arg5 : Memref sig .tc .vmem S32x5376 .f32) (harg5 : arg5.IsWhole) (arg6 : Memref sig .tc .vmem S512x5376 .bf16) (harg6 : arg6.IsWhole)
  (arg7 : Memref sig .tc .vmem S512x1024 .fp8e4m3) (harg7 : arg7.IsWhole) (arg8 : Memref sig .tc .vmem S512x32 .f32) (harg8 : arg8.IsWhole)
  (arg9 : Memref sig .tc .vmem S1024x5376 .bf16) (harg9 : arg9.IsWhole) (arg10 : Memref sig .tc .vmem S512x1024 .bf16) (harg10 : arg10.IsWhole)
  (arg11 : Memref sig .tc .vmem S16x1024 .bf16) (harg11 : arg11.IsWhole) (arg12 : Memref sig .tc .vmem S1024x128 .bf16) (harg12 : arg12.IsWhole)
  (x0 : Vec Ideal S1x128 .i32) (x1 : Vec Ideal S512x1024 .bf16) (x2 : Vec Ideal S128x5376 .bf16) (x3 : Vec Ideal S1024x5376 .fp8e4m3)
  (x4 : Vec Ideal S32x5376 .f32)

/-! ## The mask and the one-hot rows the first point prepares -/

theorem keep_kept : arg11.view.read (Elt Ideal) (arg11.view.writes (Elt Ideal) arg11.view.junk (kernelRun0_A.sl.HS2_1 (F := Ideal) c arg1 harg1 x0)) =
    fun y : S16x1024.Idx => keepAt x0 (y 1) := by
  funext y
  rw [View.read_writes_junk_apply_eq_canon]
  unfold kernelRun0_A.sl.HS2_1
  dsimp only
  rw [View.canon_unit_zero zero_zero]
  obtain ⟨i, d, rfl⟩ : ∃ (i : Fin 16) (d : Fin 1024), y = ix2 i d := ⟨y 0, y 1, eta2 y⟩
  exact (congrArg (fun I => k0_pay229 (F := Ideal) I (ix2 i d)) (indices_read arg1 harg1 x0)).trans (keep_stored x0 i d)

theorem onehot_kept : arg12.view.read (Elt Ideal) (arg12.view.writes (Elt Ideal) arg12.view.junk (kernelRun0_A.sl.HS3_1 (F := Ideal) c arg1 harg1 x0)) =
    fun y : S1024x128.Idx => hot x0 (y 0) (y 1) := by
  funext y
  rw [View.read_writes_junk_apply_eq_canon]
  unfold kernelRun0_A.sl.HS3_1
  dsimp only
  rw [View.canon_unit_zero zero_zero]
  obtain ⟨d, k, rfl⟩ : ∃ (d : Fin 1024) (k : Fin 128), y = ix2 d k := ⟨y 0, y 1, eta2 y⟩
  exact (congrArg (fun I => k0_pay228 (F := Ideal) I (ix2 d k)) (indices_read arg1 harg1 x0)).trans (onehot_stored x0 d k)

/-! ## A later point -/

section B
variable (hc0 : ¬cond0_0 i) (xs0 : Vec Ideal S1024x5376 .bf16) (xs2 : Vec Ideal S16x1024 .bf16)

theorem later_codes (y : S512x1024.Idx) : out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2 y = codeAt x1 xs2 (y 0) (y 1) := by
  have h := loop_codes_of arg2 arg11 (harg2.unread x1) (harg11.unread xs2) Variants.none c none i arg1 harg1 harg2 arg3 harg3 arg4 harg4 arg5 harg5 arg6 harg6 arg7 harg7 arg8 harg8 arg9 harg9 arg10 harg10 harg11 arg12 harg12 16 le_rfl
  have hv := cover0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2
  unfold out0_B_6
  rw [View.read_writes_eq_canon _ _ _ hv]
  rw [harg2.read_unread, harg11.read_unread] at h
  exact View.canon_apply_of_pieces (fun y : S512x1024.Idx => codeAt x1 xs2 (y 0) (y 1)) _ h y (hv y)

theorem later_scales (y : S512x32.Idx) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2 y = scaleAt x1 xs2 (y 0) (y 1) := by
  have h := loop_scales_of arg2 arg11 (harg2.unread x1) (harg11.unread xs2) Variants.none c none i arg1 harg1 harg2 arg3 harg3 arg4 harg4 arg5 harg5 arg6 harg6 arg7 harg7 arg8 harg8 arg9 harg9 arg10 harg10 harg11 arg12 harg12 16 le_rfl
  have hv := cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2
  unfold out0_B_7
  rw [View.read_writes_eq_canon _ _ _ hv]
  rw [harg2.read_unread, harg11.read_unread] at h
  exact View.canon_apply_of_pieces (fun y : S512x32.Idx => scaleAt x1 xs2 (y 0) (y 1)) _ h y (hv y)

theorem later_product (y : S512x5376.Idx) :
    out0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2 y = rowDot (mixAt x1 xs2) xs0 y := by
  have h := loop_mixed_of arg2 arg11 (harg2.unread x1) (harg11.unread xs2) Variants.none c none i arg1 harg1 harg2 arg3 harg3 arg4 harg4 arg5 harg5 arg6 harg6 arg7 harg7 arg8 harg8 arg9 harg9 arg10 harg10 harg11 arg12 harg12 16 le_rfl
  have hm := loop_mixed_covers arg2 arg11 (harg2.unread x1) (harg11.unread xs2) Variants.none c none i arg1 harg1 harg2 arg3 harg3 arg4 harg4 arg5 harg5 arg6 harg6 arg7 harg7 arg8 harg8 arg9 harg9 arg10 harg10 harg11 arg12 harg12 16 le_rfl
  have hv := cover0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 xs2
  rw [harg2.read_unread, harg11.read_unread] at h
  have ha := mixed_read _ (mixAt x1 xs2) h hm
  have hb : ∀ (o : ℕ) (inbw : ∀ k, ![0, o] k + S1024x256.size k ≤ S1024x5376.size k),
      View.readAt (Elt Ideal) arg9.view (Rect.unit (s := S1024x5376) ![0, o] S1024x256.size inbw).toLoadRect (harg9.unread xs0) =
        fun x => xs0 ((Rect.unit (s := S1024x5376) ![0, o] S1024x256.size inbw).toLoadRect.idx x) := by
    intro o inbw
    funext x
    rw [View.readAt_apply, harg9.read_unread]
  unfold out0_B_5
  rw [View.read_writes_eq_canon _ _ _ hv]
  refine View.canon_apply_of_pieces (rowDot (mixAt x1 xs2) xs0) _ ?_ y (hv y)
  unfold kernelRun0_B
  dsimp only
  refine View.PiecesOf.mem (Val := Elt Ideal) (e := .bf16) (G := rowDot (mixAt x1 xs2) xs0) ?_
  have P := fun (o : ℕ) (inbw : ∀ k, ![0, o] k + S1024x256.size k ≤ S1024x5376.size k) (inb : ∀ k, ![0, o] k + S512x256.size k ≤ S512x5376.size k) =>
    product_piece (mixAt x1 xs2) xs0 _ _ o inbw inb (ha arg10) (hb o inbw)
  clear h hm hv ha hb
  refine ⟨P 5120 inb_S1024x5376_S1024x256_0_5120 inb_S512x5376_S512x256_0_5120, P 4864 inb_S1024x5376_S1024x256_0_4864 inb_S512x5376_S512x256_0_4864, P 4608 inb_S1024x5376_S1024x256_0_4608 inb_S512x5376_S512x256_0_4608, P 4352 inb_S1024x5376_S1024x256_0_4352 inb_S512x5376_S512x256_0_4352, P 4096 inb_S1024x5376_S1024x256_0_4096 inb_S512x5376_S512x256_0_4096, P 3840 inb_S1024x5376_S1024x256_0_3840 inb_S512x5376_S512x256_0_3840, P 3584 inb_S1024x5376_S1024x256_0_3584 inb_S512x5376_S512x256_0_3584, P 3328 inb_S1024x5376_S1024x256_0_3328 inb_S512x5376_S512x256_0_3328, P 3072 inb_S1024x5376_S1024x256_0_3072 inb_S512x5376_S512x256_0_3072, P 2816 inb_S1024x5376_S1024x256_0_2816 inb_S512x5376_S512x256_0_2816, P 2560 inb_S1024x5376_S1024x256_0_2560 inb_S512x5376_S512x256_0_2560, P 2304 inb_S1024x5376_S1024x256_0_2304 inb_S512x5376_S512x256_0_2304, P 2048 inb_S1024x5376_S1024x256_0_2048 inb_S512x5376_S512x256_0_2048, P 1792 inb_S1024x5376_S1024x256_0_1792 inb_S512x5376_S512x256_0_1792, P 1536 inb_S1024x5376_S1024x256_0_1536 inb_S512x5376_S512x256_0_1536, P 1280 inb_S1024x5376_S1024x256_0_1280 inb_S512x5376_S512x256_0_1280, P 1024 inb_S1024x5376_S1024x256_0_1024 inb_S512x5376_S512x256_0_1024, P 768 inb_S1024x5376_S1024x256_0_768 inb_S512x5376_S512x256_0_768, P 512 inb_S1024x5376_S1024x256_0_512 inb_S512x5376_S512x256_0_512, P 256 inb_S1024x5376_S1024x256_0_256 inb_S512x5376_S512x256_0_256, P 0 inb_S1024x5376_S1024x256_0_0 inb_S512x5376_S512x256_0_0, trivial⟩

end B

/-! ## The first point -/

section A
variable (hc0 : cond0_0 i)

/-- The weights the first point prepares. -/
def weights (x0 : Vec Ideal S1x128 .i32) (x2 : Vec Ideal S128x5376 .bf16) (x3 : Vec Ideal S1024x5376 .fp8e4m3) (x4 : Vec Ideal S32x5376 .f32) :
    S1024x5376.Idx → EReal := fun y => weightAt x0 x2 x3 x4 (y 0) (y 1)

/-- The mask the first point prepares. -/
def mask (x0 : Vec Ideal S1x128 .i32) : S16x1024.Idx → EReal := fun y => keepAt x0 (y 1)

theorem pick_hot (x0 : Vec Ideal S1x128 .i32) (x2 : Vec Ideal S128x5376 .bf16) (x3 : Vec Ideal S1024x5376 .fp8e4m3) (x4 : Vec Ideal S32x5376 .f32) :
    (fun y : S1024x5376.Idx => pickAt (fun z : S1024x128.Idx => hot x0 (z 0) (z 1)) x2 x3 x4 (y 0) (y 1)) = weights x0 x2 x3 x4 := rfl

theorem first_mask : sout0_A_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = mask x0 := by
  unfold sout0_A_2
  funext y
  rw [View.read_writes_junk_apply_eq_canon, ← View.read_writes_junk_apply_eq_canon arg11.view]
  exact congrFun (keep_kept c arg1 harg1 arg11 x0) y

theorem weights_written :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg3.unread x2) (harg4.unread x3) (harg5.unread x4)
      (arg12.view.writes (Elt Ideal) arg12.view.junk (kernelRun0_A.sl.HS3_1 c arg1 harg1 x0)) 21, ∀ x, p.2 x = weights x0 x2 x3 x4 (p.1.emb x) := by
  have h := loop_weights_of Variants.none c none i arg1 harg1 arg2 harg2 arg3 harg3 arg4 harg4 arg5 harg5 arg6 harg6 arg7 harg7 arg8 harg8 arg9 harg9 arg10 harg10 arg11 harg11 arg12 harg12 hc0 (harg3.unread x2) (harg4.unread x3) (harg5.unread x4)
    (arg12.view.writes (Elt Ideal) arg12.view.junk (kernelRun0_A.sl.HS3_1 c arg1 harg1 x0)) 21 le_rfl
  rw [harg3.read_unread, harg4.read_unread, harg5.read_unread, onehot_kept c arg1 harg1 arg12 x0] at h
  exact h

theorem first_weights : sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = weights x0 x2 x3 x4 := by
  have hv := scover0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
  have h := weights_written c i arg1 harg1 arg2 harg2 arg3 harg3 arg4 harg4 arg5 harg5 arg6 harg6 arg7 harg7 arg8 harg8 arg9 harg9 arg10 harg10 arg11 harg11 arg12 harg12 x0 x2 x3 x4 hc0
  unfold sout0_A_0
  rw [View.read_writes_eq_canon _ _ _ hv]
  funext y
  exact View.canon_apply_of_pieces (weights x0 x2 x3 x4) _ h y (hv y)

theorem first_codes (y : S512x1024.Idx) : out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 y = codeAt x1 (mask x0) (y 0) (y 1) := by
  have h := loop_codes_of arg2 arg11 (harg2.unread x1) (arg11.view.writes (Elt Ideal) arg11.view.junk (kernelRun0_A.sl.HS2_1 (F := Ideal) c arg1 harg1 x0)) Variants.none c none i arg1 harg1 harg2 arg3 harg3 arg4 harg4 arg5 harg5 arg6 harg6 arg7 harg7 arg8 harg8 arg9 harg9 arg10 harg10 harg11 arg12 harg12 16 le_rfl
  have hv := cover0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
  unfold out0_A_6
  rw [View.read_writes_eq_canon _ _ _ hv]
  rw [harg2.read_unread, keep_kept] at h
  exact View.canon_apply_of_pieces (fun y : S512x1024.Idx => codeAt x1 (mask x0) (y 0) (y 1)) _ h y (hv y)

theorem first_scales (y : S512x32.Idx) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 y = scaleAt x1 (mask x0) (y 0) (y 1) := by
  have h := loop_scales_of arg2 arg11 (harg2.unread x1) (arg11.view.writes (Elt Ideal) arg11.view.junk (kernelRun0_A.sl.HS2_1 (F := Ideal) c arg1 harg1 x0)) Variants.none c none i arg1 harg1 harg2 arg3 harg3 arg4 harg4 arg5 harg5 arg6 harg6 arg7 harg7 arg8 harg8 arg9 harg9 arg10 harg10 harg11 arg12 harg12 16 le_rfl
  have hv := cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
  unfold out0_A_7
  rw [View.read_writes_eq_canon _ _ _ hv]
  rw [harg2.read_unread, keep_kept] at h
  exact View.canon_apply_of_pieces (fun y : S512x32.Idx => scaleAt x1 (mask x0) (y 0) (y 1)) _ h y (hv y)

theorem first_product (y : S512x5376.Idx) :
    out0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 y = rowDot (mixAt x1 (mask x0)) (weights x0 x2 x3 x4) y := by
  have h := loop_mixed_of arg2 arg11 (harg2.unread x1) (arg11.view.writes (Elt Ideal) arg11.view.junk (kernelRun0_A.sl.HS2_1 (F := Ideal) c arg1 harg1 x0)) Variants.none c none i arg1 harg1 harg2 arg3 harg3 arg4 harg4 arg5 harg5 arg6 harg6 arg7 harg7 arg8 harg8 arg9 harg9 arg10 harg10 harg11 arg12 harg12 16 le_rfl
  have hm := loop_mixed_covers arg2 arg11 (harg2.unread x1) (arg11.view.writes (Elt Ideal) arg11.view.junk (kernelRun0_A.sl.HS2_1 (F := Ideal) c arg1 harg1 x0)) Variants.none c none i arg1 harg1 harg2 arg3 harg3 arg4 harg4 arg5 harg5 arg6 harg6 arg7 harg7 arg8 harg8 arg9 harg9 arg10 harg10 harg11 arg12 harg12 16 le_rfl
  have hv := cover0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
  rw [harg2.read_unread, keep_kept] at h
  have ha := mixed_read _ (mixAt x1 (mask x0)) h hm
  have hw := weights_written c i arg1 harg1 arg2 harg2 arg3 harg3 arg4 harg4 arg5 harg5 arg6 harg6 arg7 harg7 arg8 harg8 arg9 harg9 arg10 harg10 arg11 harg11 arg12 harg12 x0 x2 x3 x4 hc0
  have hwv := loop_weights_covers Variants.none c none i arg1 harg1 arg2 harg2 arg3 harg3 arg4 harg4 arg5 harg5 arg6 harg6 arg7 harg7 arg8 harg8 arg9 harg9 arg10 harg10 arg11 harg11 arg12 harg12 hc0 (harg3.unread x2) (harg4.unread x3) (harg5.unread x4)
    (arg12.view.writes (Elt Ideal) arg12.view.junk (kernelRun0_A.sl.HS3_1 c arg1 harg1 x0)) 21 le_rfl
  have hb := weights_read arg9 (weights x0 x2 x3 x4) _ hw hwv
  unfold out0_A_5
  rw [View.read_writes_eq_canon _ _ _ hv]
  refine View.canon_apply_of_pieces (rowDot (mixAt x1 (mask x0)) (weights x0 x2 x3 x4)) _ ?_ y (hv y)
  unfold kernelRun0_A kernelRun0_A.sl.r
  dsimp only
  refine View.PiecesOf.mem (Val := Elt Ideal) (e := .bf16) (G := rowDot (mixAt x1 (mask x0)) (weights x0 x2 x3 x4)) ?_
  have P := fun (o : ℕ) (inbw : ∀ k, ![0, o] k + S1024x256.size k ≤ S1024x5376.size k) (inb : ∀ k, ![0, o] k + S512x256.size k ≤ S512x5376.size k) =>
    product_piece (mixAt x1 (mask x0)) (weights x0 x2 x3 x4) _ _ o inbw inb (ha arg10) (hb o inbw)
  clear h hm hv ha hb
  refine ⟨P 5120 inb_S1024x5376_S1024x256_0_5120 inb_S512x5376_S512x256_0_5120, P 4864 inb_S1024x5376_S1024x256_0_4864 inb_S512x5376_S512x256_0_4864, P 4608 inb_S1024x5376_S1024x256_0_4608 inb_S512x5376_S512x256_0_4608, P 4352 inb_S1024x5376_S1024x256_0_4352 inb_S512x5376_S512x256_0_4352, P 4096 inb_S1024x5376_S1024x256_0_4096 inb_S512x5376_S512x256_0_4096, P 3840 inb_S1024x5376_S1024x256_0_3840 inb_S512x5376_S512x256_0_3840, P 3584 inb_S1024x5376_S1024x256_0_3584 inb_S512x5376_S512x256_0_3584, P 3328 inb_S1024x5376_S1024x256_0_3328 inb_S512x5376_S512x256_0_3328, P 3072 inb_S1024x5376_S1024x256_0_3072 inb_S512x5376_S512x256_0_3072, P 2816 inb_S1024x5376_S1024x256_0_2816 inb_S512x5376_S512x256_0_2816, P 2560 inb_S1024x5376_S1024x256_0_2560 inb_S512x5376_S512x256_0_2560, P 2304 inb_S1024x5376_S1024x256_0_2304 inb_S512x5376_S512x256_0_2304, P 2048 inb_S1024x5376_S1024x256_0_2048 inb_S512x5376_S512x256_0_2048, P 1792 inb_S1024x5376_S1024x256_0_1792 inb_S512x5376_S512x256_0_1792, P 1536 inb_S1024x5376_S1024x256_0_1536 inb_S512x5376_S512x256_0_1536, P 1280 inb_S1024x5376_S1024x256_0_1280 inb_S512x5376_S512x256_0_1280, P 1024 inb_S1024x5376_S1024x256_0_1024 inb_S512x5376_S512x256_0_1024, P 768 inb_S1024x5376_S1024x256_0_768 inb_S512x5376_S512x256_0_768, P 512 inb_S1024x5376_S1024x256_0_512 inb_S512x5376_S512x256_0_512, P 256 inb_S1024x5376_S1024x256_0_256 inb_S512x5376_S512x256_0_256, P 0 inb_S1024x5376_S1024x256_0_0 inb_S512x5376_S512x256_0_0, trivial⟩

end A

end Cert.Point
-- ==== Proof.Arrays.lean ====
/- What the kernel's three result arrays hold after the run, as functions of the arrays the region reads. -/
module

public import proofs.«01_k».proof.Proof.Out

@[expose] public section

set_option maxRecDepth 8192

noncomputable section

namespace Cert.Arrays

open Idealize.ShloMosaic Idealize.ShloMosaic.TcCoe Idealize.ShloMosaic.ValueIdx Idealize.SL.Sem
open Cert.KernelIdeal Cert.KernelIdeal.Gen Cert.Quant Cert.Prep Cert.Point

/-! ## The quantizer over whole arrays -/

section
variable (X : S12288x1024.Idx → EReal) (I : S1x128.Idx → BitVec 32)

/-- An element with the outliers set to zero. -/
def inlier (r : Fin 12288) (d : Fin 1024) : EReal := X (ix2 r d) * keepAt I d

/-- The largest magnitude of a group. -/
def largest (r : Fin 12288) (g : Fin 32) : EReal := ⨆ k : Fin 32, max (inlier X I r (chan g k)) (-(inlier X I r (chan g k)))

/-- The magnitude per unit of the format's range. -/
def ratio (r : Fin 12288) (g : Fin 32) : EReal := largest X I r g * Ideal.ofBits .f32 0x3B124925#32

/-- The scale of a group. -/
def scale (r : Fin 12288) (g : Fin 32) : EReal := scaleOf (ratio X I r g)

/-- The code of an element. -/
def code (r : Fin 12288) (d : Fin 1024) : EReal := min top (max bottom (inlier X I r d * inverseOf (ratio X I r (groupOf d))))

/-- The element the product reads: dequantized, or the outlier as it is. -/
def mixed (r : Fin 12288) (d : Fin 1024) : EReal :=
  code X I r d * scale X I r (groupOf d) + X (ix2 r d) * (Ideal.ofBits .bf16 0x3F80#16 - keepAt I d)

/-- The 512 rows of grid point `t`. -/
def rows (t : Fin 24) : S512x1024.Idx → EReal := fun y => X (ix2 ⟨512 * t.val + (y 0).val, by have : (y 0).val < 512 := (y 0).isLt; omega⟩ (y 1))

theorem rows_scale (t : Fin 24) (r : Fin 512) (g : Fin 32) : scaleAt (rows X t) (mask I) r g = scale X I ⟨512 * t.val + r.val, by omega⟩ g := rfl

theorem rows_code (t : Fin 24) (r : Fin 512) (d : Fin 1024) : codeAt (rows X t) (mask I) r d = code X I ⟨512 * t.val + r.val, by omega⟩ d := rfl

theorem rows_mixed (t : Fin 24) (r : Fin 512) (d : Fin 1024) : mixAt (rows X t) (mask I) r d = mixed X I ⟨512 * t.val + r.val, by omega⟩ d := rfl

end

/-! ## The blocks the points read -/

variable (m : (ℓ : Loc nD τ sig) → Buf (Elt Ideal) ℓ) (c : Dev nD)

theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem block0 (t : Fin cfg0.N) : iblk m c 0 t = V m c main_v0 := by
  obtain ⟨e0, e1⟩ := index0 t
  funext y
  show V m c main_v0 (((cfg0.win 0).blk t).view.emb y) = V m c main_v0 y
  refine congrArg (V m c main_v0) (funext fun a => Fin.ext ?_)
  match a with
  | ⟨0, _⟩ => show win0_0.index t (0 : Fin 2) * 1 + 1 * (y 0).val = (y 0).val; rw [e0]; omega
  | ⟨1, _⟩ => show win0_0.index t (1 : Fin 2) * 128 + 1 * (y 1).val = (y 1).val; rw [e1]; omega

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem block2 (t : Fin cfg0.N) : iblk m c 2 t = V m c main_arg2 := by
  obtain ⟨e0, e1⟩ := index2 t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 5376 + 1 * (y 1).val = (y 1).val; rw [e1]; omega

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem block3 (t : Fin cfg0.N) : iblk m c 3 t = V m c main_arg3 := by
  obtain ⟨e0, e1⟩ := index3 t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; rw [e0]; omega
  | ⟨1, _⟩ => show win0_3.index t (1 : Fin 2) * 5376 + 1 * (y 1).val = (y 1).val; rw [e1]; omega

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem block4 (t : Fin cfg0.N) : iblk m c 4 t = V m c main_arg4 := by
  obtain ⟨e0, e1⟩ := index4 t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 32 + 1 * (y 0).val = (y 0).val; rw [e0]; omega
  | ⟨1, _⟩ => show win0_4.index t (1 : Fin 2) * 5376 + 1 * (y 1).val = (y 1).val; rw [e1]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem block1 (t : Fin cfg0.N) : iblk m c 1 t = rows (V m c main_v1) ⟨t.val, N_0 ▸ t.isLt⟩ := by
  obtain ⟨e0, e1⟩ := index1 t
  funext y
  show V m c main_v1 (((cfg0.win 1).blk t).view.emb y) = _
  refine congrArg (V m c main_v1) (funext fun a => Fin.ext ?_)
  match a with
  | ⟨0, _⟩ => show win0_1.index t (0 : Fin 2) * 512 + 1 * (y 0).val = 512 * t.val + (y 0).val; rw [e0]; omega
  | ⟨1, _⟩ => show win0_1.index t (1 : Fin 2) * 1024 + 1 * (y 1).val = (y 1).val; rw [e1]; omega

/-! ## The scratch between the points -/

/-- The weights the region prepares. -/
abbrev prepared : S1024x5376.Idx → EReal := weights (V m c main_v0) (V m c main_arg2) (V m c main_arg3) (V m c main_arg4)

/-- The scratch holds the prepared weights and the mask after every point: the first point writes them, the others keep them. -/
theorem scratch_kept : ∀ (n : ℕ) (hn : n < cfg0.N), (outsAt0 m c n hn).2.2.2.1 = prepared m c ∧ (outsAt0 m c n hn).2.2.2.2 = mask (V m c main_v0) := by
  intro n
  induction n with
  | zero =>
    intro hn
    have e := outsAt0_A m c ⟨0, hn⟩ rfl
    constructor
    · rw [e]
      dsimp only
      rw [first_weights, block0, block2, block3, block4]
    · rw [e]
      dsimp only
      rw [first_mask, block0]
  | succ n ih =>
    intro hn
    have hN : cfg0.N = 24 := N_0
    have h := ih (by omega)
    have e := outsAt0_B m c ⟨n + 1, hn⟩ (by show ¬(n + 1) % 24 = 0; omega)
    constructor
    · rw [e]
      exact h.1
    · rw [e]
      exact h.2

/-! ## What each point leaves in the output blocks -/

theorem point_codes (t : Fin cfg0.N) (y : S512x1024.Idx) :
    (outsAt0 m c t.val t.isLt).2.1 y = codeAt (rows (V m c main_v1) ⟨t.val, N_0 ▸ t.isLt⟩) (mask (V m c main_v0)) (y 0) (y 1) := by
  by_cases h0 : t.val % 24 = 0
  · rw [outsAt0_A m c t h0]
    dsimp only
    rw [first_codes, block0, block1]
  · rw [outsAt0_B m c t h0]
    dsimp only
    rw [later_codes, block1, (scratch_kept m c _ _).2]

theorem point_scales (t : Fin cfg0.N) (y : S512x32.Idx) :
    (outsAt0 m c t.val t.isLt).2.2.1 y = scaleAt (rows (V m c main_v1) ⟨t.val, N_0 ▸ t.isLt⟩) (mask (V m c main_v0)) (y 0) (y 1) := by
  by_cases h0 : t.val % 24 = 0
  · rw [outsAt0_A m c t h0]
    dsimp only
    rw [first_scales, block0, block1]
  · rw [outsAt0_B m c t h0]
    dsimp only
    rw [later_scales, block1, (scratch_kept m c _ _).2]

theorem point_product (t : Fin cfg0.N) (y : S512x5376.Idx) :
    (outsAt0 m c t.val t.isLt).1 y = rowDot (mixAt (rows (V m c main_v1) ⟨t.val, N_0 ▸ t.isLt⟩) (mask (V m c main_v0))) (prepared m c) y := by
  by_cases h0 : t.val % 24 = 0
  · rw [outsAt0_A m c t h0]
    dsimp only
    rw [first_product, block0, block1, block2, block3, block4]
  · rw [outsAt0_B m c t h0]
    dsimp only
    rw [later_product, block1, (scratch_kept m c _ _).2, (scratch_kept m c _ _).1]

/-! ## The arrays -/

/-- The array of result 1 after the run. -/
theorem array_product (r : Fin 12288) (n : Fin 5376) :
    (dats m 0 c).arrAt 5 cfg0.N (ix2 r n) = ∑ d : Fin 1024, mixed (V m c main_v1) (V m c main_v0) r d * weightAt (V m c main_v0) (V m c main_arg2) (V m c main_arg3) (V m c main_arg4) d n := by
  have hN : cfg0.N = 24 := N_0
  have hp : Value.pt5Of (ix2 r n) = r.val / 512 := by
    show 1 * (r.val / 512 - 0) + 1 * (n.val / 5376 - 0) = _
    omega
  have hlt : Value.pt5Of (ix2 r n) < cfg0.N := by rw [hp]; omega
  have hl : Value.loc5Of (ix2 r n) = ix2 (⟨r.val % 512, by omega⟩ : Fin 512) n := by
    funext a
    refine Fin.ext ?_
    match a with
    | ⟨0, _⟩ => rfl
    | ⟨1, _⟩ => show n.val % 5376 = n.val; omega
  have hr : (⟨512 * (r.val / 512) + r.val % 512, by omega⟩ : Fin 12288) = r := Fin.ext (by show 512 * (r.val / 512) + r.val % 512 = r.val; omega)
  rw [Value.final5]
  unfold Value.G5
  rw [dif_pos hlt, ← Value.outsAt0_sweep m c _ hlt, hl]
  have e := point_product m c ⟨_, hlt⟩ (ix2 (⟨r.val % 512, by omega⟩ : Fin 512) n)
  refine e.trans ?_
  have ht : (⟨(⟨Value.pt5Of (ix2 r n), hlt⟩ : Fin cfg0.N).val, N_0 ▸ hlt⟩ : Fin 24) = ⟨r.val / 512, by omega⟩ := Fin.ext hp
  rw [ht]
  show ∑ d : Fin 1024, mixed (V m c main_v1) (V m c main_v0) (⟨512 * (r.val / 512) + r.val % 512, by omega⟩ : Fin 12288) d * weightAt (V m c main_v0) (V m c main_arg2) (V m c main_arg3) (V m c main_arg4) d n = _
  rw [hr]

/-- The array of result 2 after the run. -/
theorem array_codes (r : Fin 12288) (n : Fin 1024) :
    (dats m 0 c).arrAt 6 cfg0.N (ix2 r n) = code (V m c main_v1) (V m c main_v0) r n := by
  have hN : cfg0.N = 24 := N_0
  have hp : Value.pt6Of (ix2 r n) = r.val / 512 := by
    show 1 * (r.val / 512 - 0) + 1 * (n.val / 1024 - 0) = _
    omega
  have hlt : Value.pt6Of (ix2 r n) < cfg0.N := by rw [hp]; omega
  have hl : Value.loc6Of (ix2 r n) = ix2 (⟨r.val % 512, by omega⟩ : Fin 512) n := by
    funext a
    refine Fin.ext ?_
    match a with
    | ⟨0, _⟩ => rfl
    | ⟨1, _⟩ => show n.val % 1024 = n.val; omega
  have hr : (⟨512 * (r.val / 512) + r.val % 512, by omega⟩ : Fin 12288) = r := Fin.ext (by show 512 * (r.val / 512) + r.val % 512 = r.val; omega)
  rw [Value.final6]
  unfold Value.G6
  rw [dif_pos hlt, ← Value.outsAt0_sweep m c _ hlt, hl]
  have e := point_codes m c ⟨_, hlt⟩ (ix2 (⟨r.val % 512, by omega⟩ : Fin 512) n)
  refine e.trans ?_
  have ht : (⟨(⟨Value.pt6Of (ix2 r n), hlt⟩ : Fin cfg0.N).val, N_0 ▸ hlt⟩ : Fin 24) = ⟨r.val / 512, by omega⟩ := Fin.ext hp
  rw [ht]
  show code (V m c main_v1) (V m c main_v0) (⟨512 * (r.val / 512) + r.val % 512, by omega⟩ : Fin 12288) n = _
  rw [hr]

/-- The array of result 3 after the run. -/
theorem array_scales (r : Fin 12288) (n : Fin 32) :
    (dats m 0 c).arrAt 7 cfg0.N (ix2 r n) = scale (V m c main_v1) (V m c main_v0) r n := by
  have hN : cfg0.N = 24 := N_0
  have hp : Value.pt7Of (ix2 r n) = r.val / 512 := by
    show 1 * (r.val / 512 - 0) + 1 * (n.val / 32 - 0) = _
    omega
  have hlt : Value.pt7Of (ix2 r n) < cfg0.N := by rw [hp]; omega
  have hl : Value.loc7Of (ix2 r n) = ix2 (⟨r.val % 512, by omega⟩ : Fin 512) n := by
    funext a
    refine Fin.ext ?_
    match a with
    | ⟨0, _⟩ => rfl
    | ⟨1, _⟩ => show n.val % 32 = n.val; omega
  have hr : (⟨512 * (r.val / 512) + r.val % 512, by omega⟩ : Fin 12288) = r := Fin.ext (by show 512 * (r.val / 512) + r.val % 512 = r.val; omega)
  rw [Value.final7]
  unfold Value.G7
  rw [dif_pos hlt, ← Value.outsAt0_sweep m c _ hlt, hl]
  have e := point_scales m c ⟨_, hlt⟩ (ix2 (⟨r.val % 512, by omega⟩ : Fin 512) n)
  refine e.trans ?_
  have ht : (⟨(⟨Value.pt7Of (ix2 r n), hlt⟩ : Fin cfg0.N).val, N_0 ▸ hlt⟩ : Fin 24) = ⟨r.val / 512, by omega⟩ := Fin.ext hp
  rw [ht]
  show scale (V m c main_v1) (V m c main_v0) (⟨512 * (r.val / 512) + r.val % 512, by omega⟩ : Fin 12288) n = _
  rw [hr]

end Cert.Arrays
-- ==== Proof.Equation.lean ====
/- The kernel's results are the reference's, for distinct channel indices and a finite input. -/
module

public import proofs.«01_k».proof.Proof.ScaleEq
public import proofs.«01_k».proof.Proof.Arrays

@[expose] public section

set_option maxRecDepth 8192

noncomputable section

namespace Cert.Equal

open Idealize.ShloMosaic Idealize.ShloMosaic.TcCoe Idealize.ShloMosaic.ValueIdx Idealize.SL.Sem
open Cert.ReferenceIdeal Cert.Quant Cert.Prep Cert.Host

/-- What the precondition grants: the indices are distinct channels, and the input is finite. -/
structure Allowed (X : S12288x1024.Idx → EReal) (ids : S128.Idx → BitVec 32) : Prop where
  distinct : ∀ i j : Fin 128, ids (ix1 i) = ids (ix1 j) → i = j
  channel : ∀ k : Fin 128, ∃ d : Fin 1024, ids (ix1 k) = BitVec.ofNat 32 d.val
  finite : ∀ (r : Fin 12288) (d : Fin 1024), ∃ v : ℝ, X (ix2 r d) = (v : EReal) ∧ |v| < (2 : ℝ) ^ (128 : ℤ)

variable {X : S12288x1024.Idx → EReal} {ids : S128.Idx → BitVec 32} {I : S1x128.Idx → BitVec 32}

/-! ## The mask -/

/-- A sum over the list of a term at the index that names a channel is that term. -/
theorem sum_named (h : Allowed X ids) (d : Fin 1024) (f : Fin 128 → EReal) (k : Fin 128) (hk : BitVec.ofNat 32 d.val = ids (ix1 k)) :
    ∑ j : Fin 128, (if BitVec.ofNat 32 d.val = ids (ix1 j) then f j else 0) = f k := by
  rw [Finset.sum_eq_single k (fun j _ hj => if_neg (fun e => hj (h.distinct j k (e.symm.trans hk)))) (fun e => absurd (Finset.mem_univ k) e),
    if_pos hk]

/-- Nothing is summed at a channel that the list does not name. -/
theorem sum_unnamed (d : Fin 1024) (f : Fin 128 → EReal) (hd : ¬ Named ids d) :
    ∑ j : Fin 128, (if BitVec.ofNat 32 d.val = ids (ix1 j) then f j else 0) = 0 :=
  Finset.sum_eq_zero fun j _ => if_neg fun e => hd ⟨j, e⟩

/-- A one-hot element, from the list itself. -/
theorem hot_eq (hI : ∀ k : Fin 128, I (ix2 0 k) = ids (ix1 k)) (d : Fin 1024) (k : Fin 128) :
    hot I d k = if BitVec.ofNat 32 d.val = ids (ix1 k) then 1 else 0 := by
  unfold hot; rw [hI]

/-- The mask is 0 at a named channel. -/
theorem keep_named (h : Allowed X ids) (hI : ∀ k : Fin 128, I (ix2 0 k) = ids (ix1 k)) (d : Fin 1024) (hd : Named ids d) : keepAt I d = 0 := by
  obtain ⟨k, hk⟩ := hd
  unfold keepAt
  simp only [hot_eq hI]
  rw [sum_named h d (fun _ => 1) k hk, ← EReal.coe_one, ← EReal.coe_sub, sub_self, EReal.coe_zero]

/-- The mask is 1 at every other channel. -/
theorem keep_unnamed (hI : ∀ k : Fin 128, I (ix2 0 k) = ids (ix1 k)) (d : Fin 1024) (hd : ¬ Named ids d) : keepAt I d = 1 := by
  unfold keepAt
  simp only [hot_eq hI]
  rw [sum_unnamed d (fun _ => 1) hd, sub_zero]

open Classical in
/-- The masked input is the reference's kept row. -/
theorem inlier_eq (h : Allowed X ids) (hI : ∀ k : Fin 128, I (ix2 0 k) = ids (ix1 k)) (r : Fin 12288) (d : Fin 1024) :
    Arrays.inlier X I r d = kept X ids (ix2 r d) := by
  rw [kept_apply]
  unfold Arrays.inlier
  by_cases hd : Named ids d
  · rw [keep_named h hI d hd, if_pos hd, mul_zero]
  · rw [keep_unnamed hI d hd, if_neg hd, mul_one]

/-! ## The quantizer -/

/-- The largest magnitudes agree. -/
theorem largest_eq (h : Allowed X ids) (hI : ∀ k : Fin 128, I (ix2 0 k) = ids (ix1 k)) (r : Fin 12288) (g : Fin 32) :
    Arrays.largest X I r g = largest (groups X ids) (ix2 r g) := by
  rw [largest_apply]
  unfold Arrays.largest
  refine iSup_congr fun k => ?_
  rw [groups_apply, inlier_eq h hI]
  rfl

/-- A kept element is a real below `2 ^ 128` in magnitude. -/
theorem kept_real (h : Allowed X ids) (r : Fin 12288) (d : Fin 1024) :
    ∃ v : ℝ, (kept X ids (ix2 r d) : EReal) = (v : EReal) ∧ |v| < (2 : ℝ) ^ (128 : ℤ) := by
  classical
  rw [kept_apply]
  by_cases hd : Named ids d
  · rw [if_pos hd]; exact ⟨0, EReal.coe_zero.symm, by rw [abs_zero]; positivity⟩
  · rw [if_neg hd]; exact h.finite r d

/-- The supremum of finitely many magnitudes of reals is one of them. -/
theorem sup_real {n : ℕ} [NeZero n] (v : Fin n → ℝ) (B : ℝ) (hv : ∀ k, |v k| < B) :
    ∃ a : ℝ, (⨆ k, max (v k : EReal) (-(v k : EReal))) = (a : EReal) ∧ 0 ≤ a ∧ a < B := by
  obtain ⟨k0, hk0⟩ := Finite.exists_max fun k => |v k|
  refine ⟨|v k0|, ?_, abs_nonneg _, hv k0⟩
  have e : ∀ k, max (v k : EReal) (-(v k : EReal)) = ((|v k| : ℝ) : EReal) := fun k => by
    rw [← EReal.coe_neg, ← EReal.coe_strictMono.monotone.map_max]; rfl
  refine le_antisymm (iSup_le fun k => ?_) ?_
  · rw [e]; exact_mod_cast hk0 k
  · rw [← e]; exact le_iSup (fun k => max (v k : EReal) (-(v k : EReal))) k0

/-- The largest magnitude of a group is a real below `2 ^ 128`. -/
theorem largest_real (h : Allowed X ids) (r : Fin 12288) (g : Fin 32) :
    ∃ a : ℝ, (largest (groups X ids) (ix2 r g) : EReal) = (a : EReal) ∧ 0 ≤ a ∧ a < (2 : ℝ) ^ (128 : ℤ) := by
  rw [largest_apply]
  choose v hv hb using fun k : Fin 32 => kept_real h r (Host.chan g k)
  obtain ⟨a, ha, h0, hB⟩ := sup_real v _ hb
  refine ⟨a, ?_, h0, hB⟩
  rw [← ha]
  refine iSup_congr fun k => ?_
  rw [groups_apply, ← hv k]

/-- Result 3: the scales agree. -/
theorem scales_agree (h : Allowed X ids) (hI : ∀ k : Fin 128, I (ix2 0 k) = ids (ix1 k)) (r : Fin 12288) (g : Fin 32) :
    Arrays.scale X I r g = scales (largest (groups X ids)) (ix2 r g) := by
  obtain ⟨a, ha, h0, hB⟩ := largest_real h r g
  rw [Host.scales_apply]
  unfold Arrays.scale Arrays.ratio
  rw [largest_eq h hI, ha]
  exact scale_eq a h0 hB

/-- A channel is the one its group and place name. -/
theorem chan_grp (d : Fin 1024) : Host.chan (grp d) (pos d) = d := Fin.ext (Nat.div_add_mod d.val 32)

/-- Result 2: the codes agree. -/
theorem codes_agree (h : Allowed X ids) (hI : ∀ k : Fin 128, I (ix2 0 k) = ids (ix1 k)) (r : Fin 12288) (d : Fin 1024) :
    Arrays.code X I r d = clipped (groups X ids) (largest (groups X ids)) (ix2 r d) := by
  obtain ⟨a, ha, h0, hB⟩ := largest_real h r (grp d)
  rw [clipped_apply, Host.inverses_apply, groups_apply, chan_grp]
  unfold Arrays.code Arrays.ratio
  rw [inlier_eq h hI, largest_eq h hI]
  rw [show groupOf d = grp d from rfl, ha, inverse_eq a h0 hB]
  rfl

/-! ## The product -/

/-- The upper bound of the format is above zero and the lower one is below. -/
theorem clip_zero : min top (max bottom 0) = 0 := by
  have ht : (0 : EReal) ≤ top := by
    show (0 : EReal) ≤ Ideal.ieee 8 23 (0x43E00000#32)
    unfold Ideal.ieee
    rw [show (BitVec.extractLsb' 23 8 (0x43E00000#32)).toNat = 135 by decide, show (BitVec.extractLsb' (8 + 23) 1 (0x43E00000#32) == 1#1) = false by decide]
    rw [if_neg (by decide), if_neg (by decide), if_neg (by decide)]
    exact_mod_cast (by positivity : (0 : ℝ) ≤ _)
  have hb : bottom ≤ (0 : EReal) := by
    show Ideal.ieee 8 23 (0xC3E00000#32) ≤ (0 : EReal)
    unfold Ideal.ieee
    rw [show (BitVec.extractLsb' 23 8 (0xC3E00000#32)).toNat = 135 by decide, show (BitVec.extractLsb' (8 + 23) 1 (0xC3E00000#32) == 1#1) = true by decide]
    rw [if_neg (by decide), if_neg (by decide), if_pos rfl]
    rw [← EReal.coe_zero]
    refine EReal.coe_le_coe_iff.mpr ?_
    rw [neg_one_mul, neg_mul]
    exact neg_nonpos.mpr (by positivity)
  rw [max_eq_right hb, min_eq_right ht]

/-- The code of an outlier is zero. -/
theorem code_named (h : Allowed X ids) (hI : ∀ k : Fin 128, I (ix2 0 k) = ids (ix1 k)) (r : Fin 12288) (d : Fin 1024) (hd : Named ids d) :
    Arrays.code X I r d = 0 := by
  unfold Arrays.code Arrays.inlier
  rw [keep_named h hI d hd, mul_zero, zero_mul, clip_zero]

variable (WO : S128x5376.Idx → EReal) (WC : S1024x5376.Idx → EReal) (WS : S32x5376.Idx → EReal)

/-- One term of the kernel's product: the reference's term of the inlier product, and what the outlier lists add there. -/
theorem term_eq (h : Allowed X ids) (hI : ∀ k : Fin 128, I (ix2 0 k) = ids (ix1 k)) (r : Fin 12288) (d : Fin 1024) (n : Fin 5376) :
    Arrays.mixed X I r d * weightAt I WO WC WS d n
      = Arrays.code X I r d * Arrays.scale X I r (grp d) * (WC (ix2 d n) * WS (ix2 (grp d) n))
        + ∑ k : Fin 128, (if BitVec.ofNat 32 d.val = ids (ix1 k) then X (ix2 r d) * WO (ix2 k n) else 0) := by
  unfold Arrays.mixed weightAt
  rw [Ideal.ofBits_one_bf16]
  by_cases hd : Named ids d
  · obtain ⟨k, hk⟩ := hd
    have hpos : ∃ k : Fin 128, 0 < hot I d k := ⟨k, by rw [hot_eq hI, if_pos hk]; exact zero_lt_one⟩
    rw [if_pos hpos, code_named h hI r d ⟨k, hk⟩, keep_named h hI d ⟨k, hk⟩, zero_mul, zero_add, zero_mul, zero_mul, zero_add, sub_zero, mul_one,
      sum_named h d (fun k => X (ix2 r d) * WO (ix2 k n)) k hk]
    refine congrArg (X (ix2 r d) * ·) ?_
    refine Eq.trans (Finset.sum_congr rfl fun j _ => ?_) (sum_named h d (fun k => WO (ix2 k n)) k hk)
    rw [hot_eq hI]
    split
    · rw [one_mul]
    · rw [zero_mul]
  · have hneg : ¬ ∃ k : Fin 128, 0 < hot I d k := by
      rintro ⟨k, hk⟩
      rw [hot_eq hI, if_neg (fun e => hd ⟨k, e⟩)] at hk
      exact lt_irrefl _ hk
    rw [if_neg hneg, keep_unnamed hI d hd, ← EReal.coe_one, ← EReal.coe_sub, sub_self, EReal.coe_zero, mul_zero, add_zero,
      sum_unnamed d (fun k => X (ix2 r d) * WO (ix2 k n)) hd, add_zero]
    rfl

/-- Channels below 1024 are told apart by their words. -/
theorem word_inj (d d' : Fin 1024) (h : BitVec.ofNat 32 d.val = BitVec.ofNat 32 d'.val) : d = d' := by
  have e := congrArg BitVec.toNat h
  simp only [BitVec.toNat_ofNat] at e
  refine Fin.ext ?_
  have := d.isLt; have := d'.isLt
  omega

/-- An outlier column of the reference is the input at the channel whose word the list holds. -/
theorem outlier_column (r : Fin 12288) (k : Fin 128) (d : Fin 1024) (hd : ids (ix1 k) = BitVec.ofNat 32 d.val) :
    outliers X ids (ix2 r k) = X (ix2 r d) := by
  refine outliers_apply X ids r k d ?_
  rw [hd]
  have := d.isLt
  rw [BitVec.toInt_eq_toNat_of_lt (by rw [BitVec.toNat_ofNat]; omega), BitVec.toNat_ofNat]
  omega

/-- What the outlier lists add, gathered by list position. -/
theorem outliers_sum (h : Allowed X ids) (r : Fin 12288) (n : Fin 5376) :
    ∑ d : Fin 1024, ∑ k : Fin 128, (if BitVec.ofNat 32 d.val = ids (ix1 k) then X (ix2 r d) * WO (ix2 k n) else 0)
      = ∑ k : Fin 128, (outliers X ids (ix2 r k) * WO (ix2 k n) : EReal) := by
  rw [Finset.sum_comm]
  refine Finset.sum_congr rfl fun k _ => ?_
  obtain ⟨d, hd⟩ := h.channel k
  rw [outlier_column r k d hd, Finset.sum_eq_single d (fun d' _ hne => if_neg (fun e => hne (word_inj d' d (e.trans hd))))
    (fun e => absurd (Finset.mem_univ d) e), if_pos hd.symm]

/-- Result 1: the products agree. -/
theorem product_agree (h : Allowed X ids) (hI : ∀ k : Fin 128, I (ix2 0 k) = ids (ix1 k)) (r : Fin 12288) (n : Fin 5376) :
    ∑ d : Fin 1024, Arrays.mixed X I r d * weightAt I WO WC WS d n
      = (∑ d : Fin 1024, (clipped (groups X ids) (largest (groups X ids)) (ix2 r d) * scalesWide (largest (groups X ids)) (ix2 r d) : EReal)
          * (WC (ix2 d n) * weightScalesWide WS (ix2 d n)))
        + ∑ k : Fin 128, (outliers X ids (ix2 r k) * WO (ix2 k n) : EReal) := by
  rw [Finset.sum_congr rfl fun d _ => term_eq WO WC WS h hI r d n, Finset.sum_add_distrib, outliers_sum WO h]
  refine congrArg (· + _) (Finset.sum_congr rfl fun d _ => ?_)
  rw [codes_agree h hI, scales_agree h hI, scalesWide_apply, weightScalesWide_apply]

end Cert.Equal
-- ==== Proof.Allowed.lean ====
/- The precondition, read: the indices are distinct channels and the input is finite. -/
module

public import proofs.«01_k».proof.Proof.Equation
public import proofs.«01_k».proof.Pre_indices_distinct_and_x_finite

@[expose] public section

set_option maxRecDepth 8192

noncomputable section

namespace Cert.Allow

open Idealize.ShloMosaic Idealize.ShloMosaic.TcCoe Idealize.ShloMosaic.ValueIdx Idealize.SL.Sem
open Cert.Pre_indices_distinct_and_x_finite

/-- The shape relations that the precondition's operations take. -/
instance facts : Cert.Pre_indices_distinct_and_x_finite.Facts where
  bcast_S128_S128x1_0 := by decide
  bcast_S128_S1x128_1 := by decide
  bcast_S128x1_S128x128_0_1 := by decide
  bcast_S1x128_S128x128_0_1 := by decide
  bcast_S_S128 := by decide
  bcast_S_S2x6144x1024 := by decide

variable (x : FVec Ideal S2x6144x1024 .bf16) (ids : IVec S128 32) (wo : FVec Ideal S128x5376 .bf16) (wc : FVec Ideal S1024x5376 .fp8e4m3)
  (ws : FVec Ideal S32x5376 .f32)

/-- Two positions of the list either are the same one or hold different indices. -/
theorem distinct_of (h : (fn (F := Ideal) x ids wo wc ws).1 = fun _ => 1#1) (i j : Fin 128) (e : ids (ix1 i) = ids (ix1 j)) : i = j := by
  have hij := congrFun h (ix2 i j)
  change IntOp.ori (IntOp.cmpi .eq (BitVec.ofNat 32 i.val) (BitVec.ofNat 32 j.val))
    (IntOp.cmpi .ne (broadcastInDim S128x128 ![0, 1] Facts.bcast_S128x1_S128x128_0_1 (broadcastInDim S128x1 ![0] Facts.bcast_S128_S128x1_0 ids) (ix2 i j))
      (broadcastInDim S128x128 ![0, 1] Facts.bcast_S1x128_S128x128_0_1 (broadcastInDim S1x128 ![1] Facts.bcast_S128_S1x128_1 ids) (ix2 i j))) = 1#1 at hij
  rw [broadcastInDim_apply _ _ _ (ix2 i j) (ix2 i (0 : Fin 1)) (fun a => by match a with | ⟨0, _⟩ => rfl | ⟨1, _⟩ => rfl),
    broadcastInDim_apply _ _ _ (ix2 i (0 : Fin 1)) (ix1 i) (fun a => by match a with | ⟨0, _⟩ => rfl),
    broadcastInDim_apply _ _ _ (ix2 i j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl),
    WordCmp.cmpi_eq_eq, WordCmp.cmpi_ne_eq, decide_eq_false (not_not.mpr e)] at hij
  by_contra hne
  rw [decide_eq_false (fun hw => hne (Fin.ext (by
    have e' := congrArg BitVec.toNat hw
    simp only [BitVec.toNat_ofNat] at e'
    have := i.isLt; have := j.isLt
    omega)))] at hij
  exact absurd hij (by decide)

/-- Every index is a channel's number. -/
theorem channel_of (h : (fn (F := Ideal) x ids wo wc ws).2.1 = fun _ => 1#1) (k : Fin 128) : ∃ d : Fin 1024, ids (ix1 k) = BitVec.ofNat 32 d.val := by
  have hk := congrFun h (ix1 k)
  change IntOp.andi (IntOp.cmpi .sge (ids (ix1 k)) 0#32) (IntOp.cmpi .slt (ids (ix1 k)) 1024#32) = 1#1 at hk
  rw [WordCmp.cmpi_sge_eq, WordCmp.cmpi_slt_eq] at hk
  generalize ids (ix1 k) = w at hk ⊢
  by_cases h0 : (0#32 : BitVec 32).toInt ≤ w.toInt
  · by_cases h1 : w.toInt < (1024#32 : BitVec 32).toInt
    · rw [show (0#32 : BitVec 32).toInt = 0 by decide] at h0
      rw [show (1024#32 : BitVec 32).toInt = 1024 by decide] at h1
      have hw : w.toNat < 1024 := by
        have := BitVec.toInt_eq_toNat_cond w
        have := w.isLt
        split at * <;> omega
      refine ⟨⟨w.toNat, hw⟩, ?_⟩
      refine BitVec.eq_of_toNat_eq ?_
      rw [BitVec.toNat_ofNat, Nat.mod_eq_of_lt w.isLt]
    · rw [decide_eq_false h1] at hk
      rw [decide_eq_true h0] at hk
      exact absurd hk (by decide)
  · rw [decide_eq_false h0] at hk
    generalize decide (w.toInt < (1024#32 : BitVec 32).toInt) = b at hk
    cases b <;> exact absurd hk (by decide)

/-- The greatest finite number of the input's format. -/
theorem ofBits_greatest : ∃ b : ℝ, Ideal.ofBits .bf16 0x7F7F#16 = (b : EReal) ∧ b < (2 : ℝ) ^ (128 : ℤ) := by
  show ∃ b : ℝ, Ideal.ieee 8 7 (0x7F7F#16) = (b : EReal) ∧ _
  unfold Ideal.ieee
  rw [show (BitVec.extractLsb' 7 8 (0x7F7F#16)).toNat = 254 by decide, show (BitVec.extractLsb' 0 7 (0x7F7F#16)).toNat = 127 by decide,
    show (BitVec.extractLsb' (8 + 7) 1 (0x7F7F#16) == 1#1) = false by decide]
  rw [if_neg (by decide), if_neg (by decide)]
  refine ⟨_, rfl, ?_⟩
  norm_num

/-- Every element of the input is a real below `2 ^ 128` in magnitude. -/
theorem finite_of (h : (fn (F := Ideal) x ids wo wc ws).2.2 = fun _ => 1#1) (i : S2x6144x1024.Idx) :
    ∃ v : ℝ, (x i : EReal) = (v : EReal) ∧ |v| < (2 : ℝ) ^ (128 : ℤ) := by
  have hi := congrFun h i
  change Ideal.cmp .ole (max (x i : EReal) (-(x i : EReal))) (Ideal.ofBits .bf16 0x7F7F#16) = 1#1 at hi
  obtain ⟨b, hb, hlt⟩ := ofBits_greatest
  rw [hb] at hi
  have hle : max (x i : EReal) (-(x i : EReal)) ≤ (b : EReal) := by
    by_contra hn
    unfold Ideal.cmp at hi
    simp [hn] at hi
  have h1 := (le_max_left _ _).trans hle
  have h2 := (le_max_right _ _).trans hle
  generalize (x i : EReal) = v at h1 h2 ⊢
  induction v using EReal.rec with
  | bot => exact absurd h2 (by simp)
  | top => exact absurd h1 (by simp)
  | coe v =>
    refine ⟨v, rfl, lt_of_le_of_lt (abs_le.mpr ⟨?_, ?_⟩) hlt⟩
    · rw [← EReal.coe_neg] at h2
      have := EReal.coe_le_coe_iff.mp h2
      linarith
    · exact EReal.coe_le_coe_iff.mp h1

/-- What the precondition says of the rows and the list. -/
theorem allowed_of (h : (fn (F := Ideal) x ids wo wc ws).1 = (fun _ => 1#1) ∧ (fn (F := Ideal) x ids wo wc ws).2.1 = (fun _ => 1#1)
      ∧ (fn (F := Ideal) x ids wo wc ws).2.2 = fun _ => 1#1) : Equal.Allowed (Host.flat x) ids :=
  ⟨distinct_of x ids wo wc ws h.1, channel_of x ids wo wc ws h.2.1, fun r d => finite_of x ids wo wc ws h.2.2 _⟩

end Cert.Allow
-- ==== Proof.Region.lean ====
/- The reference's two region results, element by element. -/
module

public import proofs.«01_k».proof.Proof.Reading
public import Idealize.ShloMosaic.Lib.Pipeline.ReadBack
public import Idealize.ShloMosaic.Lib.MatmulPlain

@[expose] public section

set_option maxRecDepth 8192

noncomputable section

namespace Cert.Host

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (c : Dev nD)

/-! ## The region's one point reads and writes whole arrays -/

theorem index0 : win0_0.index t0_0 (0 : Fin 2) = 0 ∧ win0_0.index t0_0 (1 : Fin 2) = 0 := by decide +kernel

theorem place0 (y : S12288x1024.Idx) : ((cfg0.win 0).blk t0_0).view.emb y = y := by
  obtain ⟨e0, e1⟩ := index0
  funext a
  refine Fin.ext ?_
  match a with
  | ⟨0, _⟩ => show win0_0.index t0_0 (0 : Fin 2) * 12288 + 1 * (y 0).val = (y 0).val; rw [e0]; omega
  | ⟨1, _⟩ => show win0_0.index t0_0 (1 : Fin 2) * 1024 + 1 * (y 1).val = (y 1).val; rw [e1]; omega

/-- Window 0's block is its whole array. -/
theorem read0 (G : S12288x1024.Idx → EReal) : ((cfg0.win 0).blk t0_0).view.read (Elt Ideal) G = G :=
  funext fun y => congrArg G (place0 y)

/-- Operand 0 at the point. -/
theorem block0 : iblk m c 0 t0_0 = V m c main_v38 := read0 (V m c main_v38)

theorem index1 : win0_1.index t0_0 (0 : Fin 2) = 0 ∧ win0_1.index t0_0 (1 : Fin 2) = 0 := by decide +kernel

theorem place1 (y : S12288x1024.Idx) : ((cfg0.win 1).blk t0_0).view.emb y = y := by
  obtain ⟨e0, e1⟩ := index1
  funext a
  refine Fin.ext ?_
  match a with
  | ⟨0, _⟩ => show win0_1.index t0_0 (0 : Fin 2) * 12288 + 1 * (y 0).val = (y 0).val; rw [e0]; omega
  | ⟨1, _⟩ => show win0_1.index t0_0 (1 : Fin 2) * 1024 + 1 * (y 1).val = (y 1).val; rw [e1]; omega

/-- Window 1's block is its whole array. -/
theorem read1 (G : S12288x1024.Idx → EReal) : ((cfg0.win 1).blk t0_0).view.read (Elt Ideal) G = G :=
  funext fun y => congrArg G (place1 y)

/-- Operand 1 at the point. -/
theorem block1 : iblk m c 1 t0_0 = V m c main_v41 := read1 (V m c main_v41)

theorem index2 : win0_2.index t0_0 (0 : Fin 2) = 0 ∧ win0_2.index t0_0 (1 : Fin 2) = 0 := by decide +kernel

theorem place2 (y : S1024x5376.Idx) : ((cfg0.win 2).blk t0_0).view.emb y = y := by
  obtain ⟨e0, e1⟩ := index2
  funext a
  refine Fin.ext ?_
  match a with
  | ⟨0, _⟩ => show win0_2.index t0_0 (0 : Fin 2) * 1024 + 1 * (y 0).val = (y 0).val; rw [e0]; omega
  | ⟨1, _⟩ => show win0_2.index t0_0 (1 : Fin 2) * 5376 + 1 * (y 1).val = (y 1).val; rw [e1]; omega

/-- Window 2's block is its whole array. -/
theorem read2 (G : S1024x5376.Idx → EReal) : ((cfg0.win 2).blk t0_0).view.read (Elt Ideal) G = G :=
  funext fun y => congrArg G (place2 y)

/-- Operand 2 at the point. -/
theorem block2 : iblk m c 2 t0_0 = V m c main_arg3 := read2 (V m c main_arg3)

theorem index3 : win0_3.index t0_0 (0 : Fin 2) = 0 ∧ win0_3.index t0_0 (1 : Fin 2) = 0 := by decide +kernel

theorem place3 (y : S1024x5376.Idx) : ((cfg0.win 3).blk t0_0).view.emb y = y := by
  obtain ⟨e0, e1⟩ := index3
  funext a
  refine Fin.ext ?_
  match a with
  | ⟨0, _⟩ => show win0_3.index t0_0 (0 : Fin 2) * 1024 + 1 * (y 0).val = (y 0).val; rw [e0]; omega
  | ⟨1, _⟩ => show win0_3.index t0_0 (1 : Fin 2) * 5376 + 1 * (y 1).val = (y 1).val; rw [e1]; omega

/-- Window 3's block is its whole array. -/
theorem read3 (G : S1024x5376.Idx → EReal) : ((cfg0.win 3).blk t0_0).view.read (Elt Ideal) G = G :=
  funext fun y => congrArg G (place3 y)

/-- Operand 3 at the point. -/
theorem block3 : iblk m c 3 t0_0 = V m c main_v44 := read3 (V m c main_v44)

theorem index4 : win0_4.index t0_0 (0 : Fin 2) = 0 ∧ win0_4.index t0_0 (1 : Fin 2) = 0 := by decide +kernel

theorem place4 (y : S12288x128.Idx) : ((cfg0.win 4).blk t0_0).view.emb y = y := by
  obtain ⟨e0, e1⟩ := index4
  funext a
  refine Fin.ext ?_
  match a with
  | ⟨0, _⟩ => show win0_4.index t0_0 (0 : Fin 2) * 12288 + 1 * (y 0).val = (y 0).val; rw [e0]; omega
  | ⟨1, _⟩ => show win0_4.index t0_0 (1 : Fin 2) * 128 + 1 * (y 1).val = (y 1).val; rw [e1]; omega

/-- Window 4's block is its whole array. -/
theorem read4 (G : S12288x128.Idx → EReal) : ((cfg0.win 4).blk t0_0).view.read (Elt Ideal) G = G :=
  funext fun y => congrArg G (place4 y)

/-- Operand 4 at the point. -/
theorem block4 : iblk m c 4 t0_0 = V m c main_v1 := read4 (V m c main_v1)

theorem index5 : win0_5.index t0_0 (0 : Fin 2) = 0 ∧ win0_5.index t0_0 (1 : Fin 2) = 0 := by decide +kernel

theorem place5 (y : S128x5376.Idx) : ((cfg0.win 5).blk t0_0).view.emb y = y := by
  obtain ⟨e0, e1⟩ := index5
  funext a
  refine Fin.ext ?_
  match a with
  | ⟨0, _⟩ => show win0_5.index t0_0 (0 : Fin 2) * 128 + 1 * (y 0).val = (y 0).val; rw [e0]; omega
  | ⟨1, _⟩ => show win0_5.index t0_0 (1 : Fin 2) * 5376 + 1 * (y 1).val = (y 1).val; rw [e1]; omega

/-- Window 5's block is its whole array. -/
theorem read5 (G : S128x5376.Idx → EReal) : ((cfg0.win 5).blk t0_0).view.read (Elt Ideal) G = G :=
  funext fun y => congrArg G (place5 y)

/-- Operand 5 at the point. -/
theorem block5 : iblk m c 5 t0_0 = V m c main_arg2 := read5 (V m c main_arg2)

theorem index6 : win0_6.index t0_0 (0 : Fin 2) = 0 ∧ win0_6.index t0_0 (1 : Fin 2) = 0 := by decide +kernel

theorem place6 (y : S12288x5376.Idx) : ((cfg0.win 6).blk t0_0).view.emb y = y := by
  obtain ⟨e0, e1⟩ := index6
  funext a
  refine Fin.ext ?_
  match a with
  | ⟨0, _⟩ => show win0_6.index t0_0 (0 : Fin 2) * 12288 + 1 * (y 0).val = (y 0).val; rw [e0]; omega
  | ⟨1, _⟩ => show win0_6.index t0_0 (1 : Fin 2) * 5376 + 1 * (y 1).val = (y 1).val; rw [e1]; omega

/-- Window 6's block is its whole array. -/
theorem read6 (G : S12288x5376.Idx → EReal) : ((cfg0.win 6).blk t0_0).view.read (Elt Ideal) G = G :=
  funext fun y => congrArg G (place6 y)

theorem index7 : win0_7.index t0_0 (0 : Fin 2) = 0 ∧ win0_7.index t0_0 (1 : Fin 2) = 0 := by decide +kernel

theorem place7 (y : S12288x1024.Idx) : ((cfg0.win 7).blk t0_0).view.emb y = y := by
  obtain ⟨e0, e1⟩ := index7
  funext a
  refine Fin.ext ?_
  match a with
  | ⟨0, _⟩ => show win0_7.index t0_0 (0 : Fin 2) * 12288 + 1 * (y 0).val = (y 0).val; rw [e0]; omega
  | ⟨1, _⟩ => show win0_7.index t0_0 (1 : Fin 2) * 1024 + 1 * (y 1).val = (y 1).val; rw [e1]; omega

/-- Window 7's block is its whole array. -/
theorem read7 (G : S12288x1024.Idx → EReal) : ((cfg0.win 7).blk t0_0).view.read (Elt Ideal) G = G :=
  funext fun y => congrArg G (place7 y)

/-- The array of result window 6 after the run. -/
theorem array6 : (dats m 0 c).arrAt 6 cfg0.N
    = out0_6 (V m c main_v38) (V m c main_v41) (V m c main_arg3) (V m c main_v44) (V m c main_v1) (V m c main_arg2) := by
  refine (read6 ((dats m 0 c).arrAt 6 cfg0.N)).symm.trans ((Value.blocks6 m c t0_0 (flush0_6 t0_0)).trans ?_)
  rw [Value.flushed6, block0, block1, block2, block3, block4, block5]
  generalize out0_6 (V m c main_v38) (V m c main_v41) (V m c main_arg3) (V m c main_v44) (V m c main_v1) (V m c main_arg2) = O
  rfl

/-- The array of result window 7 after the run. -/
theorem array7 : (dats m 0 c).arrAt 7 cfg0.N
    = out0_7 (V m c main_v38) (V m c main_v41) (V m c main_arg3) (V m c main_v44) (V m c main_v1) (V m c main_arg2) := by
  refine (read7 ((dats m 0 c).arrAt 7 cfg0.N)).symm.trans ((Value.blocks7 m c t0_0 (flush0_7 t0_0)).trans ?_)
  rw [Value.flushed7, block0, block1, block2, block3, block4, block5]
  generalize out0_7 (V m c main_v38) (V m c main_v41) (V m c main_arg3) (V m c main_v44) (V m c main_v1) (V m c main_arg2) = O
  rfl

/-! ## What the point computes -/

theorem zero_zero : (![0, 0] : Fin 2 → ℕ) = fun _ => 0 := by
  funext a; match a with
  | ⟨0, _⟩ => rfl
  | ⟨1, _⟩ => rfl

theorem dot_inliers : dot_S12288x1024_S1024x5376_S12288x5376_1_0_0_1_n_n = DotDims.plain 12288 1024 5376 := rfl
theorem dot_outliers : dot_S12288x128_S128x5376_S12288x5376_1_0_0_1_n_n = DotDims.plain 12288 128 5376 := rfl

/-- The codes that the region stores are its clipped operand. -/
theorem codes_out (x0 : Vec Ideal S12288x1024 .f32) (x1 : Vec Ideal S12288x1024 .bf16) (x2 : Vec Ideal S1024x5376 .fp8e4m3)
    (x3 : Vec Ideal S1024x5376 .bf16) (x4 : Vec Ideal S12288x128 .bf16) (x5 : Vec Ideal S128x5376 .bf16) (y : S12288x1024.Idx) :
    out0_7 x0 x1 x2 x3 x4 x5 y = (x0 y : EReal) := by
  unfold out0_7
  rw [View.canon_unit_zero zero_zero, View.ld_unit_zero zero_zero]
  show truncf (F := Ideal) .fp8e4m3 (shapeCast S12288x1024 x0 shapeCasts_S12288x1024_S12288x1024) bitsLt_fp8e4m3_f32 y = _
  rw [shapeCast_self]
  rfl

/-- The product that the region stores: the dequantized inliers against the dequantized weights, and the outliers
    against their own weights. -/
theorem product_out (x0 : Vec Ideal S12288x1024 .f32) (x1 : Vec Ideal S12288x1024 .bf16) (x2 : Vec Ideal S1024x5376 .fp8e4m3)
    (x3 : Vec Ideal S1024x5376 .bf16) (x4 : Vec Ideal S12288x128 .bf16) (x5 : Vec Ideal S128x5376 .bf16) (r : Fin 12288) (n : Fin 5376) :
    out0_6 x0 x1 x2 x3 x4 x5 (ix2 r n)
      = (∑ d : Fin 1024, (x0 (ix2 r d) * x1 (ix2 r d) : EReal) * (x2 (ix2 d n) * x3 (ix2 d n)))
        + ∑ k : Fin 128, (x4 (ix2 r k) * x5 (ix2 k n) : EReal) := by
  unfold out0_6
  rw [View.canon_unit_zero zero_zero, View.ld_unit_zero zero_zero, View.ld_unit_zero zero_zero, View.ld_unit_zero zero_zero,
    View.ld_unit_zero zero_zero, View.ld_unit_zero zero_zero, View.ld_unit_zero zero_zero]
  unfold k0_pay2 k0_pay1
  simp only [shapeCast_self]
  show FloatOps.matmul (F := Ideal) dot_S12288x1024_S1024x5376_S12288x5376_1_0_0_1_n_n none
        (mulf (extf .bf16 (truncf .fp8e4m3 x0 bitsLt_fp8e4m3_f32) bitsLt_fp8e4m3_bf16) x1)
        (mulf (extf .bf16 x2 bitsLt_fp8e4m3_bf16) x3) (constant S12288x5376 .f32 0x00000000#32) (ix2 r n)
      + FloatOps.matmul (F := Ideal) dot_S12288x128_S128x5376_S12288x5376_1_0_0_1_n_n none x4 x5 (constant S12288x5376 .f32 0x00000000#32) (ix2 r n) = _
  rw [dot_inliers, dot_outliers, Ideal.matmul_plain_apply, Ideal.matmul_plain_apply]
  show (Ideal.ofBits .f32 0x00000000#32 + _) + (Ideal.ofBits .f32 0x00000000#32 + _) = _
  rw [Ideal.ofBits_zero_f32, zero_add, zero_add]
  rfl

end Cert.Host
-- ==== Proof.Values.lean ====
/- The two programs' results, from the same arguments, under the precondition. -/
module

public import proofs.«01_k».proof.Proof.Allowed
public import proofs.«01_k».proof.Proof.Region
public import Idealize.ShloMosaic.Lib.StableHlo.RunRead

@[expose] public section

set_option maxRecDepth 8192

noncomputable section

namespace Cert.Values

open Idealize.ShloMosaic Idealize.ShloMosaic.TcCoe Idealize.ShloMosaic.ValueIdx Idealize.SL.Sem

/-! ## The kernel's host arrays -/

section
open Cert.KernelIdeal Cert.KernelIdeal.Gen
variable (m : (ℓ : Loc nD τ sig) → Buf (Elt Ideal) ℓ) (c : Dev nD)

/-- The list that the region reads is the argument's, as one row. -/
theorem list_array : V m c main_v0 = shapeCast S1x128 (m (c, Proc.tc.devRef main_arg1)) shapeCasts_S128_S1x128 := by
  unfold V
  after_reads_simp
  rfl

/-- The list's element `k`. -/
theorem list_apply (k : Fin 128) : (V m c main_v0 : S1x128.Idx → BitVec 32) (ix2 0 k) = (m (c, Proc.tc.devRef main_arg1) : S128.Idx → BitVec 32) (ix1 k) := by
  rw [list_array]
  refine shapeCast_apply _ _ (ix2 (0 : Fin 1) k) (ix1 k) ?_
  rw [Shape.rowMajor_val_one, Shape.rowMajor_val_two]
  show k.val = 0 * 128 + k.val
  omega

/-- The rows that the region reads are the argument's, batch and sequence in one axis. -/
theorem rows_array : V m c main_v1 = shapeCast S12288x1024 (m (c, Proc.tc.devRef main_arg0)) shapeCasts_S2x6144x1024_S12288x1024 := by
  unfold V
  after_reads_simp
  rfl
end

/-! ## The results -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments on a device. -/
structure Same : Prop where
  arg0 : m' (c, Proc.tc.devRef Cert.ReferenceIdeal.main_arg0) = m (c, Proc.tc.devRef Cert.KernelIdeal.main_arg0)
  arg1 : m' (c, Proc.tc.devRef Cert.ReferenceIdeal.main_arg1) = m (c, Proc.tc.devRef Cert.KernelIdeal.main_arg1)
  arg2 : m' (c, Proc.tc.devRef Cert.ReferenceIdeal.main_arg2) = m (c, Proc.tc.devRef Cert.KernelIdeal.main_arg2)
  arg3 : m' (c, Proc.tc.devRef Cert.ReferenceIdeal.main_arg3) = m (c, Proc.tc.devRef Cert.KernelIdeal.main_arg3)
  arg4 : m' (c, Proc.tc.devRef Cert.ReferenceIdeal.main_arg4) = m (c, Proc.tc.devRef Cert.KernelIdeal.main_arg4)

variable {m m' c}

/-- The kernel's rows are the reference's. -/
theorem rows_eq (s : Same m m' c) : Cert.KernelIdeal.Gen.V m c Cert.KernelIdeal.main_v1 = Host.rows m' c := by
  rw [rows_array]
  show _ = Host.flat (m' (c, Proc.tc.devRef Cert.ReferenceIdeal.main_arg0))
  rw [s.arg0]
  rfl

/-- The kernel's list is the reference's. -/
theorem list_eq (s : Same m m' c) (k : Fin 128) :
    (Cert.KernelIdeal.Gen.V m c Cert.KernelIdeal.main_v0 : Cert.KernelIdeal.S1x128.Idx → BitVec 32) (ix2 0 k) = Host.ids m' c (ix1 k) := by
  rw [list_apply]
  show _ = (m' (c, Proc.tc.devRef Cert.ReferenceIdeal.main_arg1) : Cert.ReferenceIdeal.S128.Idx → BitVec 32) (ix1 k)
  rw [s.arg1]

/-- Result 3: the arrays of scales are equal. -/
theorem scales_eq (s : Same m m' c) (h : Equal.Allowed (Host.rows m' c) (Host.ids m' c)) :
    (Cert.KernelIdeal.Gen.dats m 0 c).arrAt 7 Cert.KernelIdeal.cfg0.N = Cert.ReferenceIdeal.Gen.V m' c Cert.ReferenceIdeal.main_v30 := by
  rw [Host.host_scales]
  funext y
  obtain ⟨r, g, rfl⟩ : ∃ (r : Fin 12288) (g : Fin 32), y = ix2 r g := ⟨y 0, y 1, eq_ix2 y⟩
  rw [Arrays.array_scales, rows_eq s]
  exact Equal.scales_agree h (list_eq s) r g

/-- Result 2: the arrays of codes are equal. -/
theorem codes_eq (s : Same m m' c) (h : Equal.Allowed (Host.rows m' c) (Host.ids m' c)) :
    (Cert.KernelIdeal.Gen.dats m 0 c).arrAt 6 Cert.KernelIdeal.cfg0.N = (Cert.ReferenceIdeal.Gen.dats m' 0 c).arrAt 7 Cert.ReferenceIdeal.cfg0.N := by
  rw [Host.array7, Host.host_clipped]
  funext y
  obtain ⟨r, d, rfl⟩ : ∃ (r : Fin 12288) (d : Fin 1024), y = ix2 r d := ⟨y 0, y 1, eq_ix2 y⟩
  rw [Arrays.array_codes, rows_eq s]
  rw [Host.codes_out]
  exact Equal.codes_agree h (list_eq s) r d

/-- Result 1: the products are equal. -/
theorem product_eq (s : Same m m' c) (h : Equal.Allowed (Host.rows m' c) (Host.ids m' c)) :
    (Cert.KernelIdeal.Gen.dats m 0 c).arrAt 5 Cert.KernelIdeal.cfg0.N = (Cert.ReferenceIdeal.Gen.dats m' 0 c).arrAt 6 Cert.ReferenceIdeal.cfg0.N := by
  rw [Host.array6, Host.host_clipped, Host.host_scalesWide, Host.host_weightScalesWide, Host.host_outliers,
    Cert.ReferenceIdeal.Gen.V_main_arg2, Cert.ReferenceIdeal.Gen.V_main_arg3]
  funext y
  obtain ⟨r, n, rfl⟩ : ∃ (r : Fin 12288) (n : Fin 5376), y = ix2 r n := ⟨y 0, y 1, eq_ix2 y⟩
  rw [Arrays.array_product, rows_eq s, Cert.KernelIdeal.Gen.V_main_arg2, Cert.KernelIdeal.Gen.V_main_arg3, Cert.KernelIdeal.Gen.V_main_arg4]
  rw [Host.product_out]
  refine (Equal.product_agree _ _ _ h (list_eq s) r n).trans ?_
  rw [s.arg2, s.arg3, s.arg4]

/-! ## The reference's run -/

section
open Cert.ReferenceIdeal Cert.ReferenceIdeal.Gen

/-- The reference ends with its product and codes as the region leaves them, its scales as the host computed them, and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v45_0) = (dats m 0 c).arrAt 6 cfg0.N
      ∧ r.2.mem ((c : Thread nD τ).loc main_v45_1) = (dats m 0 c).arrAt 7 cfg0.N
      ∧ r.2.mem ((c : Thread nD τ).loc main_v30) = V m c main_v30
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨Value.post6 m r h c, Value.post7 m r h c,
      (h c).2 main_v30 (Pipeline.mem_restRefs_of main_v30 (by decide) (by decide)),
      Value.kept_main_arg0 m r h c, Value.kept_main_arg1 m r h c, Value.kept_main_arg2 m r h c, Value.kept_main_arg3 m r h c,
      Value.kept_main_arg4 m r h c⟩)
    (run_main m ρ)
end

end Cert.Values
-- ==== Proof.lean ====
/- The certificate: the three programs terminate without fault and leave their arguments as they were, and the kernel's three results are the reference's. -/
module

public import proofs.«01_k».proof.Proof.Gen.ReferenceIdeal.Value
public import proofs.«01_k».proof.Proof.Gen.KernelIdeal.Value
public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Values

@[expose] public section

open Idealize.ShloMosaic Idealize.ShloMosaic.TcCoe Idealize.SL.Sem

/-- Under the precondition, from equal arguments, the kernel's product, codes and scales are the reference's. -/
theorem Cert.Proof.algebraic : Cert.algebraic_KernelIdeal_ReferenceIdeal_pre_indices_distinct_and_x_finite
    (hKernelIdeal := Cert.KernelIdeal.Gen.facts) (hReferenceIdeal := Cert.ReferenceIdeal.Gen.facts)
    (hPre_indices_distinct_and_x_finite := Cert.Allow.facts) := by
  intro m g m' g' hpre hargs
  have same : ∀ c, Cert.Values.Same m m' c := fun c => ⟨(hargs c).1, (hargs c).2.1, (hargs c).2.2.1, (hargs c).2.2.2.1, (hargs c).2.2.2.2⟩
  have allowed : ∀ c, Cert.Equal.Allowed (Cert.Host.rows m' c) (Cert.Host.ids m' c) := fun c => by
    have h := Cert.Allow.allowed_of _ _ _ _ _ (hpre c)
    unfold Cert.Host.rows Cert.Host.ids
    rw [(same c).arg0, (same c).arg1]
    exact h
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run _ _ _).mono (fun r h c => ?_) (Cert.Values.reference_run m' g')
  exact ⟨(h c).1.trans (Cert.Values.product_eq (same c) (allowed c)).symm, (h c).2.1.trans (Cert.Values.codes_eq (same c) (allowed c)).symm,
    (h c).2.2.1.trans (Cert.Values.scales_eq (same c) (allowed c)).symm, (h c).2.2.2⟩

/-- All three programs terminate without fault and leave their arguments as they were; the kernel's idealization is the kernel's own text; and its results are the reference's. -/
theorem Cert.Proof.claim : Cert.Claim :=
  ⟨Cert.Kernel.Gen.facts, Cert.KernelIdeal.Gen.facts, Cert.ReferenceIdeal.Gen.facts, Cert.Allow.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Proof.algebraic⟩
